-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47_8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S256x64 : Shape := ⟨2, ![256, 64]⟩
abbrev S256 : Shape := ⟨1, ![256]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S10000x64 : Shape := ⟨2, ![10000, 64]⟩
abbrev S400x128 : Shape := ⟨2, ![400, 128]⟩
abbrev S400x1 : Shape := ⟨2, ![400, 1]⟩
abbrev S400x64 : Shape := ⟨2, ![400, 64]⟩
abbrev S1 : Shape := ⟨1, ![1]⟩
abbrev S1x1 : Shape := ⟨2, ![1, 1]⟩
abbrev S320000x64 : Shape := ⟨2, ![320000, 64]⟩
abbrev S64x256 : Shape := ⟨2, ![64, 256]⟩
abbrev S64x64 : Shape := ⟨2, ![64, 64]⟩
abbrev S1x64 : Shape := ⟨2, ![1, 64]⟩

abbrev nBuf : Space → Nat
  | .hbm => 73
  | .vmem => 34
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x64, .f32⟩
  | .hbm, ⟨3, _⟩ => ⟨S64, .f32⟩
  | .hbm, ⟨4, _⟩ => ⟨S256x64, .f32⟩
  | .hbm, ⟨5, _⟩ => ⟨S256x64, .f32⟩
  | .hbm, ⟨6, _⟩ => ⟨S256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .f32⟩
  | .hbm, ⟨13, _⟩ => ⟨S320000, .f32⟩
  | .hbm, ⟨14, _⟩ => ⟨S_, .f32⟩
  | .hbm, ⟨15, _⟩ => ⟨S10000, .f32⟩
  | .hbm, ⟨16, _⟩ => ⟨S320000x1, .i32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000x1, .f32⟩
  | .hbm, ⟨22, _⟩ => ⟨S10000x64, .f32⟩
  | .hbm, ⟨23, _⟩ => ⟨S10000x1, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S1, .i32⟩
  | .hbm, ⟨33, _⟩ => ⟨S_, .i32⟩
  | .hbm, ⟨34, _⟩ => ⟨S320000x1, .i32⟩
  | .hbm, ⟨35, _⟩ => ⟨S320000x1, .i1⟩
  | .hbm, ⟨36, _⟩ => ⟨S1x1, .i32⟩
  | .hbm, ⟨37, _⟩ => ⟨S320000x1, .i32⟩
  | .hbm, ⟨38, _⟩ => ⟨S320000x1, .i1⟩
  | .hbm, ⟨39, _⟩ => ⟨S320000x1, .i1⟩
  | .hbm, ⟨40, _⟩ => ⟨S_, .i1⟩
  | .hbm, ⟨41, _⟩ => ⟨S320000, .i1⟩
  | .hbm, ⟨42, _⟩ => ⟨S320000x64, .f32⟩
  | .hbm, ⟨43, _⟩ => ⟨S320000x64, .i1⟩
  | .hbm, ⟨44, _⟩ => ⟨S_, .f32⟩
  | .hbm, ⟨45, _⟩ => ⟨S320000x64, .f32⟩
  | .hbm, ⟨46, _⟩ => ⟨S320000x64, .f32⟩
  | .hbm, ⟨47, _⟩ => ⟨S_, .f32⟩
  | .hbm, ⟨48, _⟩ => ⟨S10000x64, .f32⟩
  | .hbm, ⟨49, _⟩ => ⟨S320000x1, .i32⟩
  | .hbm, ⟨50, _⟩ => ⟨S10000x64, .f32⟩
  | .hbm, ⟨51, _⟩ => ⟨S10000x64, .f32⟩
  | .hbm, ⟨52, _⟩ => ⟨S256, .f32⟩
  | .hbm, ⟨53, _⟩ => ⟨S64x256, .f32⟩
  | .hbm, ⟨54, _⟩ => ⟨S64x256, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S64, .f32⟩
  | .hbm, ⟨68, _⟩ => ⟨S1x64, .f32⟩
  | .hbm, ⟨69, _⟩ => ⟨S64, .f32⟩
  | .hbm, ⟨70, _⟩ => ⟨S1x64, .f32⟩
  | .hbm, ⟨71, _⟩ => ⟨S1x64, .f32⟩
  | .hbm, ⟨72, _⟩ => ⟨S10000x64, .f32⟩
  | .local _ .vmem, ⟨0, _⟩ => ⟨S400x128, .f32⟩
  | .local _ .vmem, ⟨1, _⟩ => ⟨S400x128, .f32⟩
  | .local _ .vmem, ⟨2, _⟩ => ⟨S128x64, .f32⟩
  | .local _ .vmem, ⟨3, _⟩ => ⟨S400x1, .f32⟩
  | .local _ .vmem, ⟨4, _⟩ => ⟨S400x1, .f32⟩
  | .local _ .vmem, ⟨5, _⟩ => ⟨S400x64, .f32⟩
  | .local _ .vmem, ⟨6, _⟩ => ⟨S400x64, .f32⟩
  | .local _ .vmem, ⟨7, _⟩ => ⟨S400x1, .f32⟩
  | .local _ .vmem, ⟨8, _⟩ => ⟨S400x1, .f32⟩
  | .local _ .vmem, ⟨9, _⟩ => ⟨S400x64, .f32⟩
  | .local _ .vmem, ⟨10, _⟩ => ⟨S400x64, .f32⟩
  | .local _ .vmem, ⟨11, _⟩ => ⟨S400x1, .f32⟩
  | .local _ .vmem, ⟨12, _⟩ => ⟨S400x1, .f32⟩
  | .local _ .vmem, ⟨13, _⟩ => ⟨S1x64, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S64x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S64x64, .f32⟩
  | .local _ .vmem, ⟨23, _⟩ => ⟨S64x64, .f32⟩
  | .local _ .vmem, ⟨24, _⟩ => ⟨S64x64, .f32⟩
  | .local _ .vmem, ⟨25, _⟩ => ⟨S64x64, .f32⟩
  | .local _ .vmem, ⟨26, _⟩ => ⟨S400x64, .f32⟩
  | .local _ .vmem, ⟨27, _⟩ => ⟨S400x64, .f32⟩
  | .local _ .vmem, ⟨28, _⟩ => ⟨S400x64, .f32⟩
  | .local _ .vmem, ⟨29, _⟩ => ⟨S400x64, .f32⟩
  | .local _ .vmem, ⟨30, _⟩ => ⟨S400x64, .f32⟩
  | .local _ .vmem, ⟨31, _⟩ => ⟨S400x64, .f32⟩
  | .local _ .vmem, ⟨32, _⟩ => ⟨S1x64, .f32⟩
  | .local _ .vmem, ⟨33, _⟩ => ⟨S1x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v12 : Ref sig .tc := ⟨.hbm, 46, rfl⟩
abbrev main_cst_2 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg15_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc1_scratch3 : Ref sig .tc := ⟨.vmem, 31, rfl⟩
abbrev cc1_scratch4 : Ref sig .tc := ⟨.vmem, 32, rfl⟩
abbrev cc1_scratch5 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem14_0 : DmaSem sig := 25
abbrev cc1_sem15_0 : DmaSem sig := 26
abbrev cc1_sem15_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

@[reducible] def k1_t1_loop : Scf.Loop 32 :=
  let c0_i32_46 : BitVec 32 := 0#32
  let c400_i32 : BitVec 32 := 400#32
  let v65 : BitVec 32 := Scalar.addi c0_i32_46 c400_i32
  let c1_i32 : BitVec 32 := 1#32
  ⟨c0_i32_46, v65, c1_i32⟩
def k1_off1 (k1_t1 : Fin k1_t1_loop.trips) : Fin 2 → Nat :=
  let c0_i32_46 : BitVec 32 := 0#32
  let c1_i32 : BitVec 32 := 1#32
  let arg23 : BitVec 32 := Scf.iv c0_i32_46 c1_i32 k1_t1
  let v73 : Index := Scalar.indexCast arg23
  let c0_52 : Index := 0#32
  ![v73.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S64x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S400x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== ReferenceIdeal.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S256x64 : Shape := ⟨2, ![256, 64]⟩
abbrev S256 : Shape := ⟨1, ![256]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x64 : Shape := ⟨2, ![10000, 64]⟩
abbrev S1 : Shape := ⟨1, ![1]⟩
abbrev S1x1 : Shape := ⟨2, ![1, 1]⟩
abbrev S330000x64 : Shape := ⟨2, ![330000, 64]⟩
abbrev S1x64 : Shape := ⟨2, ![1, 64]⟩
abbrev S64x256 : Shape := ⟨2, ![64, 256]⟩

abbrev nBuf : Space → Nat
  | .hbm => 155
  | .vmem => 0
  | .smem => 0
  | _ => 0

abbrev hbmTy0_0 (i : Nat) : BufTy := match i % 128 with
  | 0 => ⟨S10000x128, .f32⟩
  | 1 => ⟨S2x320000, .i32⟩
  | 2 => ⟨S128x64, .f32⟩
  | 3 => ⟨S64, .f32⟩
  | 4 => ⟨S256x64, .f32⟩
  | 5 => ⟨S256x64, .f32⟩
  | 6 => ⟨S256, .f32⟩
  | 7 => ⟨S256, .f32⟩
  | 8 => ⟨S10000, .i32⟩
  | 9 => ⟨S1x320000, .i32⟩
  | 10 => ⟨S320000, .i32⟩
  | 11 => ⟨S330000, .i32⟩
  | 12 => ⟨S1x320000, .i32⟩
  | 13 => ⟨S320000, .i32⟩
  | 14 => ⟨S330000, .i32⟩
  | 15 => ⟨S_, .f32⟩
  | 16 => ⟨S330000, .f32⟩
  | 17 => ⟨S_, .f32⟩
  | 18 => ⟨S10000, .f32⟩
  | 19 => ⟨S330000x1, .i32⟩
  | 20 => ⟨S10000, .f32⟩
  | 21 => ⟨S_, .f32⟩
  | 22 => ⟨S10000, .f32⟩
  | 23 => ⟨S10000, .i1⟩
  | 24 => ⟨S_, .f32⟩
  | 25 => ⟨S10000, .f32⟩
  | 26 => ⟨S10000, .f32⟩
  | 27 => ⟨S10000, .f32⟩
  | 28 => ⟨S_, .f32⟩
  | 29 => ⟨S_, .f32⟩
  | 30 => ⟨S10000, .f32⟩
  | 31 => ⟨S10000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S330000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S330000, .f32⟩
  | 51 => ⟨S10000x64, .f32⟩
  | 52 => ⟨S330000x1, .f32⟩
  | 53 => ⟨S_, .i32⟩
  | 54 => ⟨S330000, .i32⟩
  | 55 => ⟨S330000, .i1⟩
  | 56 => ⟨S_, .i32⟩
  | 57 => ⟨S330000, .i32⟩
  | 58 => ⟨S330000, .i32⟩
  | 59 => ⟨S330000, .i32⟩
  | 60 => ⟨S330000x1, .i32⟩
  | 61 => ⟨S1, .i32⟩
  | 62 => ⟨S_, .i32⟩
  | 63 => ⟨S330000x1, .i32⟩
  | 64 => ⟨S330000x1, .i1⟩
  | 65 => ⟨S1x1, .i32⟩
  | 66 => ⟨S330000x1, .i32⟩
  | 67 => ⟨S330000x1, .i1⟩
  | 68 => ⟨S330000x1, .i1⟩
  | 69 => ⟨S_, .i1⟩
  | 70 => ⟨S330000, .i1⟩
  | 71 => ⟨S330000x64, .f32⟩
  | 72 => ⟨S330000x64, .i1⟩
  | 73 => ⟨S_, .f32⟩
  | 74 => ⟨S330000x64, .f32⟩
  | 75 => ⟨S330000x64, .f32⟩
  | 76 => ⟨S330000x64, .f32⟩
  | 77 => ⟨S330000x64, .f32⟩
  | 78 => ⟨S_, .f32⟩
  | 79 => ⟨S10000x64, .f32⟩
  | 80 => ⟨S330000x1, .i32⟩
  | 81 => ⟨S10000x64, .f32⟩
  | 82 => ⟨S1x64, .f32⟩
  | 83 => ⟨S10000x64, .f32⟩
  | 84 => ⟨S10000x64, .f32⟩
  | 85 => ⟨S_, .f32⟩
  | 86 => ⟨S10000x64, .f32⟩
  | 87 => ⟨S10000x64, .f32⟩
  | 88 => ⟨S_, .f32⟩
  | 89 => ⟨S64, .f32⟩
  | 90 => ⟨S_, .f32⟩
  | 91 => ⟨S64, .f32⟩
  | 92 => ⟨S_, .f32⟩
  | 93 => ⟨S10000x64, .f32⟩
  | 94 => ⟨S_, .i32⟩
  | 95 => ⟨S10000x64, .f32⟩
  | 96 => ⟨S256x64, .f32⟩
  | 97 => ⟨S256, .f32⟩
  | 98 => ⟨S256x64, .f32⟩
  | 99 => ⟨S256, .f32⟩
  | 100 => ⟨S_, .i32⟩
  | 101 => ⟨S64, .f32⟩
  | 102 => ⟨S64, .f32⟩
  | 103 => ⟨S10000x64, .f32⟩
  | 104 => ⟨S_, .i32⟩
  | 105 => ⟨S_, .i1⟩
  | 106 => ⟨S_, .i32⟩
  | 107 => ⟨S1x64, .f32⟩
  | 108 => ⟨S64, .f32⟩
  | 109 => ⟨S64x256, .f32⟩
  | 110 => ⟨S256, .f32⟩
  | 111 => ⟨S256, .f32⟩
  | 112 => ⟨S64x256, .f32⟩
  | 113 => ⟨S256, .f32⟩
  | 114 => ⟨S256, .f32⟩
  | 115 => ⟨S256, .f32⟩
  | 116 => ⟨S64, .f32⟩
  | 117 => ⟨S64, .f32⟩
  | 118 => ⟨S64, .f32⟩
  | 119 => ⟨S64, .f32⟩
  | 120 => ⟨S64, .f32⟩
  | 121 => ⟨S64, .f32⟩
  | 122 => ⟨S_, .f32⟩
  | 123 => ⟨S64, .f32⟩
  | 124 => ⟨S64, .f32⟩
  | 125 => ⟨S_, .f32⟩
  | 126 => ⟨S64, .f32⟩
  | 127 => ⟨S64, .f32⟩
  | _ => ⟨S10000x128, .f32⟩

abbrev hbmTy0_1 (i : Nat) : BufTy := match i % 128 with
  | 0 => ⟨S64, .f32⟩
  | 1 => ⟨S64, .f32⟩
  | 2 => ⟨S_, .f32⟩
  | 3 => ⟨S64, .f32⟩
  | 4 => ⟨S64, .f32⟩
  | 5 => ⟨S_, .f32⟩
  | 6 => ⟨S64, .f32⟩
  | 7 => ⟨S64, .f32⟩
  | 8 => ⟨S64, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64, .f32⟩
  | 18 => ⟨S64, .f32⟩
  | 19 => ⟨S64, .f32⟩
  | 20 => ⟨S64, .f32⟩
  | 21 => ⟨S64, .f32⟩
  | 22 => ⟨S1x64, .f32⟩
  | 23 => ⟨S_, .i32⟩
  | 24 => ⟨S10000x64, .f32⟩
  | 25 => ⟨S_, .i32⟩
  | 26 => ⟨S_, .i32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_7 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_call2_cst : Ref sig .tc := ⟨.hbm, 85, rfl⟩
abbrev main_call2_v0 : Ref sig .tc := ⟨.hbm, 86, rfl⟩
abbrev main_v43 : Ref sig .tc := ⟨.hbm, 87, rfl⟩
abbrev main_cst_8 : Ref sig .tc := ⟨.hbm, 88, rfl⟩
abbrev main_v44 : Ref sig .tc := ⟨.hbm, 89, rfl⟩
abbrev main_cst_9 : Ref sig .tc := ⟨.hbm, 90, rfl⟩
abbrev main_v45 : Ref sig .tc := ⟨.hbm, 91, rfl⟩
abbrev main_cst_10 : Ref sig .tc := ⟨.hbm, 92, rfl⟩
abbrev main_v46 : Ref sig .tc := ⟨.hbm, 93, rfl⟩
abbrev main_c_11 : Ref sig .tc := ⟨.hbm, 94, rfl⟩
abbrev main_v47_0 : Ref sig .tc := ⟨.hbm, 95, rfl⟩
abbrev main_v47_1 : Ref sig .tc := ⟨.hbm, 96, rfl⟩
abbrev main_v47_2 : Ref sig .tc := ⟨.hbm, 97, rfl⟩
abbrev main_v47_3 : Ref sig .tc := ⟨.hbm, 98, rfl⟩
abbrev main_v47_4 : Ref sig .tc := ⟨.hbm, 99, rfl⟩
abbrev main_v47_5 : Ref sig .tc := ⟨.hbm, 100, rfl⟩
abbrev main_v47_6 : Ref sig .tc := ⟨.hbm, 101, rfl⟩
abbrev main_v47_7 : Ref sig .tc := ⟨.hbm, 102, rfl⟩
abbrev main_v47_8 : Ref sig .tc := ⟨.hbm, 103, rfl⟩
abbrev main_while0c_c_20 : Ref sig .tc := ⟨.hbm, 104, rfl⟩
abbrev main_while0c_v48 : Ref sig .tc := ⟨.hbm, 105, rfl⟩
abbrev main_while0b_call3_c : Ref sig .tc := ⟨.hbm, 106, rfl⟩
abbrev main_while0b_call3_v0 : Ref sig .tc := ⟨.hbm, 107, rfl⟩
abbrev main_while0b_v48 : Ref sig .tc := ⟨.hbm, 108, rfl⟩
abbrev main_while0b_v49 : Ref sig .tc := ⟨.hbm, 109, rfl⟩
abbrev main_while0b_v50 : Ref sig .tc := ⟨.hbm, 110, rfl⟩
abbrev main_while0b_v51 : Ref sig .tc := ⟨.hbm, 111, rfl⟩
abbrev main_while0b_v52 : Ref sig .tc := ⟨.hbm, 112, rfl⟩
abbrev main_while0b_v53 : Ref sig .tc := ⟨.hbm, 113, rfl⟩
abbrev main_while0b_v54 : Ref sig .tc := ⟨.hbm, 114, rfl⟩
abbrev main_while0b_v55 : Ref sig .tc := ⟨.hbm, 115, rfl⟩
abbrev main_while0b_v56 : Ref sig .tc := ⟨.hbm, 116, rfl⟩
abbrev main_while0b_v57 : Ref sig .tc := ⟨.hbm, 117, rfl⟩
abbrev main_while0b_v58 : Ref sig .tc := ⟨.hbm, 118, rfl⟩
abbrev main_while0b_v59 : Ref sig .tc := ⟨.hbm, 119, rfl⟩
abbrev main_while0b_v60 : Ref sig .tc := ⟨.hbm, 120, rfl⟩
abbrev main_while0b_v61 : Ref sig .tc := ⟨.hbm, 121, rfl⟩
abbrev main_while0b_cst_20 : Ref sig .tc := ⟨.hbm, 122, rfl⟩
abbrev main_while0b_v62 : Ref sig .tc := ⟨.hbm, 123, rfl⟩
abbrev main_while0b_v63 : Ref sig .tc := ⟨.hbm, 124, rfl⟩
abbrev main_while0b_cst_21 : Ref sig .tc := ⟨.hbm, 125, rfl⟩
abbrev main_while0b_v64 : Ref sig .tc := ⟨.hbm, 126, rfl⟩
abbrev main_while0b_v65 : Ref sig .tc := ⟨.hbm, 127, rfl⟩
abbrev main_while0b_v66 : Ref sig .tc := ⟨.hbm, 128, rfl⟩
abbrev main_while0b_v67 : Ref sig .tc := ⟨.hbm, 129, rfl⟩
abbrev main_while0b_cst_22 : Ref sig .tc := ⟨.hbm, 130, rfl⟩
abbrev main_while0b_v68 : Ref sig .tc := ⟨.hbm, 131, rfl⟩
abbrev main_while0b_v69 : Ref sig .tc := ⟨.hbm, 132, rfl⟩
abbrev main_while0b_cst_23 : Ref sig .tc := ⟨.hbm, 133, rfl⟩
abbrev main_while0b_v70 : Ref sig .tc := ⟨.hbm, 134, rfl⟩
abbrev main_while0b_v71 : Ref sig .tc := ⟨.hbm, 135, rfl⟩
abbrev main_while0b_v72 : Ref sig .tc := ⟨.hbm, 136, rfl⟩
abbrev main_while0b_v73 : Ref sig .tc := ⟨.hbm, 137, rfl⟩
abbrev main_while0b_v74 : Ref sig .tc := ⟨.hbm, 138, rfl⟩
abbrev main_while0b_cst_24 : Ref sig .tc := ⟨.hbm, 139, rfl⟩
abbrev main_while0b_v75 : Ref sig .tc := ⟨.hbm, 140, rfl⟩
abbrev main_while0b_v76 : Ref sig .tc := ⟨.hbm, 141, rfl⟩
abbrev main_while0b_cst_25 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_v80 : Ref sig .tc := ⟨.hbm, 146, rfl⟩
abbrev main_while0b_v81 : Ref sig .tc := ⟨.hbm, 147, rfl⟩
abbrev main_while0b_v82 : Ref sig .tc := ⟨.hbm, 148, rfl⟩
abbrev main_while0b_v83 : Ref sig .tc := ⟨.hbm, 149, rfl⟩
abbrev main_while0b_call4_v0 : Ref sig .tc := ⟨.hbm, 150, rfl⟩
abbrev main_while0b_call4_c : Ref sig .tc := ⟨.hbm, 151, rfl⟩
abbrev main_while0b_v84 : Ref sig .tc := ⟨.hbm, 152, rfl⟩
abbrev main_while0b_c_26 : Ref sig .tc := ⟨.hbm, 153, rfl⟩
abbrev main_while0b_v85 : Ref sig .tc := ⟨.hbm, 154, rfl⟩

abbrev nD : Nat := 1
abbrev τ : Topo := Topo.v7x

variable {F : FTy → Type} [FloatOps F]

abbrev main_while0_count : Scf.Loop 32 := ⟨0#32, 10000#32, 1#32⟩
-- ==== Proof.KernelIdeal.Xw.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic

/-!
The first kernel region: one block of 400 nodes. The body multiplies the block of features by the weights,
takes the reciprocal square root of the block of degrees, and stores the product scaled by it and the root
itself. Everything is stated for the contents `V` the region finds in the buffers.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Xw

/-- A whole-buffer access starts at the origin. -/
theorem off00 : (![0, 0] : Fin 2 → ℕ) = fun _ => 0 := by funext a; fin_cases a <;> rfl

/-- The body's values of whole loads are its values of the buffers' contents. -/
theorem pay2_ld (x : Vec F S400x128 .f32) (w : Vec F S128x64 .f32) (d : Vec F S400x1 .f32) :
    k0_pay2 (View.ld x (Rect.unit (s := S400x128) ![0, 0] S400x128.size inb_S400x128_S400x128_0_0))
      (View.ld w (Rect.unit (s := S128x64) ![0, 0] S128x64.size inb_S128x64_S128x64_0_0))
      (View.ld d (Rect.unit (s := S400x1) ![0, 0] S400x1.size inb_S400x1_S400x1_0_0)) = k0_pay2 x w d := by
  rw [View.ld_unit_zero off00, View.ld_unit_zero off00, View.ld_unit_zero off00]

/-- Likewise for the factors. -/
theorem pay1_ld (d : Vec F S400x1 .f32) :
    k0_pay1 (View.ld d (Rect.unit (s := S400x1) ![0, 0] S400x1.size inb_S400x1_S400x1_0_0)) = k0_pay1 d := by
  rw [View.ld_unit_zero off00]

variable (V : Dev nD → Valuation τ sig (Elt F))

/-- Window `w`'s block at point `t`, read from what the region finds. -/
def blk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

set_option maxHeartbeats 1000000 in
/-- The body on whole staging buffers: it keeps the three inputs and leaves the scaled product and the root. -/
theorem body (c : Dev nD) (E : Set ℕ) (i : grid0.Coords) (a1 : Memref sig .tc .vmem S400x128 .f32) (h1 : a1.IsWhole)
    (a2 : Memref sig .tc .vmem S128x64 .f32) (h2 : a2.IsWhole) (a3 : Memref sig .tc .vmem S400x1 .f32) (h3 : a3.IsWhole)
    (a4 : Memref sig .tc .vmem S400x64 .f32) (h4 : a4.IsWhole) (a5 : Memref sig .tc .vmem S400x1 .f32) (h5 : a5.IsWhole)
    (x : Vec F S400x128 .f32) (w : Vec F S128x64 .f32) (d : Vec F S400x1 .f32) (K : PUnit → sProp 𝕄) :
    iprop(owns (c : Thread nD τ) a1 fullShare x ∗ owns (c : Thread nD τ) a2 fullShare w ∗ owns (c : Thread nD τ) a3 fullShare d
        ∗ (∃ e, owns (c : Thread nD τ) a4 fullShare e) ∗ (∃ e, owns (c : Thread nD τ) a5 fullShare e)
        ∗ (iprop(owns (c : Thread nD τ) a1 fullShare x ∗ owns (c : Thread nD τ) a2 fullShare w ∗ owns (c : Thread nD τ) a3 fullShare d
            ∗ owns (c : Thread nD τ) a4 fullShare (k0_pay2 x w d) ∗ owns (c : Thread nD τ) a5 fullShare (k0_pay1 d)) -∗ K ⟨⟩))
      ⊢ wp frame (wpE (defs₀ (F := F)) Variants.none c none) E (cc0__xw_y_kernel i a1 h1 a2 h2 a3 h3 a4 h4 a5 h5) K := by
  simp only [cc0__xw_y_kernel_eq_skeleton]; unfold cc0__xw_y_kernel_skel
  unfold owns
  iintro ⟨⟨%f1, %e1, H1⟩, ⟨%f2, %e2, H2⟩, ⟨%f3, %e3, H3⟩, ⟨%d4, %f4, -, H4⟩, ⟨%d5, %f5, -, H5⟩, Hk⟩
  subst e1 e2 e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (View.cover_of_tiled [⟨_, _⟩] S400x64.size (by rfl))).trans
      ((View.canon_unit_zero off00 _ _).trans (pay2_ld _ _ _))
  iexists _; isplitr
  swap; · iexact H5
  ipureintro
  exact (View.read_writes_eq_canon _ _ _ (View.cover_of_tiled [⟨_, _⟩] S400x1.size (by rfl))).trans
      ((View.canon_unit_zero off00 _ _).trans (pay1_ld _))

/-- What one core's run of the region keeps and leaves, point by point: the inputs at their blocks, the outputs at the
    body's values of them. -/
def dat (c : Dev nD) : Dat τ (Elt F) Unit ℕ (UR sig nD τ) ℕ cfg0 c where
  A w := V c (Proc.devRef .tc (Pipeline.arrRef spec0 w))
  after w t := match w with
    | ⟨0, _⟩ => blk V c 0 t
    | ⟨1, _⟩ => blk V c 1 t
    | ⟨2, _⟩ => blk V c 2 t
    | ⟨3, _⟩ => k0_pay2 (blk V c 0 t) (blk V c 1 t) (blk V c 2 t)
    | ⟨4, _⟩ => k0_pay1 (blk V c 2 t)
  Φ _ := Pipeline.scopedRest (Ix := Unit) (Name := ℕ) (U := UR sig nD τ) (Lvl := ℕ) (Val := Elt F) spec0 c
  q _ := fullShare
  owed _ := 0

/-- What each window's array holds at the start. -/
theorem A_eq (c : Dev nD) (w : Fin cfg0.W) : (dat V c).A w = V c (Proc.devRef .tc (Pipeline.arrRef spec0 w)) := by dsimp only [dat]
/-- The point leaves this input block as it was. -/
theorem after_0 (c : Dev nD) (t : Fin cfg0.N) : (dat V c).after 0 t = blk V c 0 t := by dsimp only [dat]
/-- The point leaves this input block as it was. -/
theorem after_1 (c : Dev nD) (t : Fin cfg0.N) : (dat V c).after 1 t = blk V c 1 t := by dsimp only [dat]
/-- The point leaves this input block as it was. -/
theorem after_2 (c : Dev nD) (t : Fin cfg0.N) : (dat V c).after 2 t = blk V c 2 t := by dsimp only [dat]
/-- The point leaves the scaled products. -/
theorem after_3 (c : Dev nD) (t : Fin cfg0.N) :
    (dat V c).after 3 t = k0_pay2 (blk V c 0 t) (blk V c 1 t) (blk V c 2 t) := by dsimp only [dat]
/-- The point leaves the factors. -/
theorem after_4 (c : Dev nD) (t : Fin cfg0.N) : (dat V c).after 4 t = k0_pay1 (blk V c 2 t) := by dsimp only [dat]

/-- An input's staging buffer holds its block at every point. -/
theorem before_of {c : Dev nD} (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hk : ∀ t, (cfg0.win w).cut (cfg0.grid.coords t) ((dat V c).after w t) = (dat V c).blockOf w t)
    (t : Fin cfg0.N) (d) : (dat V c).before w t d = (dat V c).fetched w t d :=
  (dat V c).before_in_eq_fetched w hw hlive hclip hk t d

/-- The point finds this input block. -/
theorem before_0 (c : Dev nD) (t : Fin cfg0.N) (d) : (dat V c).before 0 t d = blk V c 0 t :=
  (before_of V 0 rfl (fun _ => rfl) (fun _ _ _ => rfl) (fun t => by rw [after_0]; unfold Dat.blockOf blk; rw [A_eq]) t d).trans
    (by unfold Dat.fetched Dat.blockOf blk; rw [A_eq]; rfl)
/-- The point finds this input block. -/
theorem before_1 (c : Dev nD) (t : Fin cfg0.N) (d) : (dat V c).before 1 t d = blk V c 1 t :=
  (before_of V 1 rfl (fun _ => rfl) (fun _ _ _ => rfl) (fun t => by rw [after_1]; unfold Dat.blockOf blk; rw [A_eq]) t d).trans
    (by unfold Dat.fetched Dat.blockOf blk; rw [A_eq]; rfl)
/-- The point finds this input block. -/
theorem before_2 (c : Dev nD) (t : Fin cfg0.N) (d) : (dat V c).before 2 t d = blk V c 2 t :=
  (before_of V 2 rfl (fun _ => rfl) (fun _ _ _ => rfl) (fun t => by rw [after_2]; unfold Dat.blockOf blk; rw [A_eq]) t d).trans
    (by unfold Dat.fetched Dat.blockOf blk; rw [A_eq]; rfl)

/-- The body at any point, over the pipeline's own account of the staging buffers. -/
theorem at_point (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d))
        ∗ (∃ d, owns (c : Thread nD τ) (st0_4 t) fullShare ((dat V c).before 4 t d)))
      ⊢ wp frame (wpE (defs₀ (F := F)) Variants.none c none) Set.univ (bodyAt0 t) (fun _ =>
        iprop((dat V c).Φ t.succ ∗ (dat V c).owesAt () t.succ
          ∗ owns (c : Thread nD τ) (st0_0 t) fullShare ((dat V c).after 0 t)
          ∗ owns (c : Thread nD τ) (st0_1 t) fullShare ((dat V c).after 1 t)
          ∗ owns (c : Thread nD τ) (st0_2 t) fullShare ((dat V c).after 2 t)
          ∗ owns (c : Thread nD τ) (st0_3 t) fullShare ((dat V c).after 3 t)
          ∗ owns (c : Thread nD τ) (st0_4 t) fullShare ((dat V c).after 4 t))) := by
  unfold bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body c Set.univ (grid0.coords t) _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body on that point's staging buffers. -/
theorem row (t : Fin cfg0.N) : defs₀ (F := F) .tc cfg0.body (cfg0.bodyArgs t (cfg0.slots t)) = bodyAt0 t := by
  unfold defs₀; rw [Defs.onTc_tc]

/-- The body meets the pipeline's obligation at every point. -/
theorem obligation (c : Dev nD) : BodyObligation (dat (F := F) V c) (defs₀ (F := F)) Variants.none () Set.univ := fun t => by
  rw [bigSep_W0, bigSep_W0, row]
  exact triple_restated (at_point V c t) rfl .rfl fun _ => .rfl

end Xw

end Cert.KernelIdeal.Run

end
-- ==== Proof.KernelIdeal.LstmLoop.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.ValueIdxCore
public import Idealize.ShloMosaic.Lib.Pipeline.ValueKit.Tiles
public import Idealize.ShloMosaic.Lib.Claim
public import Idealize.ShloMosaic.Lib.Ring
public import Idealize.ShloMosaic.Lib.Tactic

/-!
The recurrence's loop inside one block of 400 rows: one trip reads row `k` of the four gate arrays, makes one step of
the recurrence from the carried pair, and stores the new hidden row. The loop's invariant says which rows are stored.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ (UR sig nD τ) ℕ

namespace Lstm

/-- Row `k` (modulo the block) of a block, as a one-row vector. -/
def rowOf (x : Vec F S400x64 .f32) (k : ℕ) : Vec F S1x64 .f32 := fun j => x (ix2 ⟨k % 400, Nat.mod_lt _ (by decide)⟩ (j 1))

/-- The weights on the hidden row, one matrix per gate. -/
structure Weights (F : FTy → Type) where
  wi : FVec F S64x64 .f32
  wf : FVec F S64x64 .f32
  wg : FVec F S64x64 .f32
  wo : FVec F S64x64 .f32

/-- The four gate arrays of a block, the input's part of each gate. -/
structure Gates (F : FTy → Type) where
  gi : Vec F S400x64 .f32
  gf : Vec F S400x64 .f32
  gg : Vec F S400x64 .f32
  go : Vec F S400x64 .f32

/-- One step of the recurrence: from the hidden and cell rows `s` to the next two, with the gates' input part. -/
def cell (W : Weights F) (ri rf rg ro : Vec F S1x64 .f32) (s : Vec F S1x64 .f32 × Vec F S1x64 .f32) :
    Vec F S1x64 .f32 × Vec F S1x64 .f32 :=
  (k1_pay2 W.wi W.wf W.wg W.wo s.1 s.2 ri rf rg ro, k1_pay1 W.wi W.wf W.wg s.1 s.2 ri rf rg)

/-- The hidden and cell rows after the block's first `k` rows, from `s`. -/
def rows (W : Weights F) (G : Gates F) (s : Vec F S1x64 .f32 × Vec F S1x64 .f32) : ℕ → Vec F S1x64 .f32 × Vec F S1x64 .f32
  | 0 => s
  | k + 1 => cell W (rowOf G.gi k) (rowOf G.gf k) (rowOf G.gg k) (rowOf G.go k) (rows W G s k)

/-- The stores of the first `k` trips, last first. -/
def stores (W : Weights F) (G : Gates F) (s : Vec F S1x64 .f32 × Vec F S1x64 .f32) : ℕ → List (View.Piece (Elt F) S400x64 .f32)
  | 0 => []
  | k + 1 => if h : k < k1_t1_loop.trips then
      ⟨Rect.unit (s := S400x64) (k1_off1 ⟨k, h⟩) S1x64.size (k1_off1_inb ⟨k, h⟩), (rows W G s (k + 1)).1⟩ :: stores W G s k
    else stores W G s k

/-- A load of row `k` reads that row. -/
theorem load_row (x : Vec F S400x64 .f32) (k : Fin k1_t1_loop.trips) :
    View.ld x (Rect.unit (s := S400x64) (k1_off1 k) S1x64.size (k1_off1_inb k)) = rowOf x k.val := by
  have hk : k.val < 400 := Nat.lt_of_lt_of_le k.isLt k1_t1_abs.2.1
  have e0 : k1_off1 k 0 = k.val := by rw [k1_off1_eq]; rfl
  have e1 : k1_off1 k 1 = 0 := by rw [k1_off1_eq]; rfl
  funext j
  refine View.ld_unit_apply_of x _ _ _ _ _ fun a => ?_
  match a with
  | 0 =>
    have hj : (j 0).val = 0 := Nat.lt_one_iff.mp (j 0).isLt
    show k.val % 400 = k1_off1 k 0 + (j 0).val
    rw [e0, hj, Nat.mod_eq_of_lt hk, Nat.add_zero]
  | 1 => show (j 1).val = k1_off1 k 1 + (j 1).val; rw [e1, Nat.zero_add]

/-- The weights and gates a run has in its registers and scratch. -/
abbrev regs (v56 v58 v60 v62 : FVec F S64x64 .f32) : Weights F := ⟨v56, v58, v60, v62⟩
/-- The gates a run has in its scratch. -/
abbrev scr (a17 a18 a19 a20 : Memref sig .tc .vmem S400x64 .f32) (X17 : a17.view.ty.Contents (Elt F))
    (X18 : a18.view.ty.Contents (Elt F)) (X19 : a19.view.ty.Contents (Elt F)) (X20 : a20.view.ty.Contents (Elt F)) : Gates F :=
  ⟨a17.view.read (Elt F) X17, a18.view.read (Elt F) X18, a19.view.read (Elt F) X19, a20.view.read (Elt F) X20⟩

/-- The stores of one more trip. -/
theorem stores_succ (W : Weights F) (G : Gates F) (s : Vec F S1x64 .f32 × Vec F S1x64 .f32) (k : Fin k1_t1_loop.trips) :
    stores W G s (k.val + 1) = ⟨Rect.unit (s := S400x64) (k1_off1 k) S1x64.size (k1_off1_inb k), (rows W G s (k.val + 1)).1⟩ :: stores W G s k.val := by
  rw [stores, dif_pos k.isLt]

set_option warn.classDefReducibility false in
/-- The loop by its invariant: the gate arrays stay, the output holds the stores of the trips so far, and the carried
    pair is the recurrence's after that many rows. -/
@[sl_loop] def loop (𝒱 : Variants) (c : Dev nD) (bd : Option 𝒱.V) (E : Set ℕ) (i : grid1.Coords) (a1 : Memref sig .tc .vmem S400x64 .f32) (h1 : a1.IsWhole) (a2 : Memref sig .tc .vmem S400x1 .f32) (h2 : a2.IsWhole) (a3 : Memref sig .tc .vmem S1x64 .f32) (h3 : a3.IsWhole) (a4 : Memref sig .tc .vmem S64x64 .f32) (h4 : a4.IsWhole) (a5 : Memref sig .tc .vmem S64x64 .f32) (h5 : a5.IsWhole) (a6 : Memref sig .tc .vmem S64x64 .f32) (h6 : a6.IsWhole) (a7 : Memref sig .tc .vmem S64x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x64 .f32) (h11 : a11.IsWhole) (a12 : Memref sig .tc .vmem S64x64 .f32) (h12 : a12.IsWhole) (a13 : Memref sig .tc .vmem S64x64 .f32) (h13 : a13.IsWhole) (a14 : Memref sig .tc .vmem S64x64 .f32) (h14 : a14.IsWhole) (a15 : Memref sig .tc .vmem S64x64 .f32) (h15 : a15.IsWhole) (a16 : Memref sig .tc .vmem S400x64 .f32) (h16 : a16.IsWhole) (a17 : Memref sig .tc .vmem S400x64 .f32) (h17 : a17.IsWhole) (a18 : Memref sig .tc .vmem S400x64 .f32) (h18 : a18.IsWhole) (a19 : Memref sig .tc .vmem S400x64 .f32) (h19 : a19.IsWhole) (a20 : Memref sig .tc .vmem S400x64 .f32) (h20 : a20.IsWhole) (a21 : Memref sig .tc .vmem S1x64 .f32) (h21 : a21.IsWhole) (a22 : Memref sig .tc .vmem S1x64 .f32) (h22 : a22.IsWhole)
    (v56 v58 v60 v62 : FVec F S64x64 .f32) (X17 : a17.view.ty.Contents (Elt F)) (X18 : a18.view.ty.Contents (Elt F))
    (X19 : a19.view.ty.Contents (Elt F)) (X20 : a20.view.ty.Contents (Elt F)) (G16 : a16.view.ty.Contents (Elt F))
    (init : Vec F S1x64 .f32 × Vec F S1x64 .f32) :
    Idealize.ShloMosaic.LoopInv (M := 𝕄) Idealize.ShloMosaic.frame (wpE (defs₀ (F := F)) 𝒱 (c : Thread nD τ) bd) E
      k1_t1_loop.lb k1_t1_loop.ub k1_t1_loop.st k1_t1_ok init
      (k1_t1_body (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 v56 v58 v60 v62) where
  inv k acc := iprop((a17.view.loc (c : Thread nD τ) ↦[a17.view.set]{fullShare} X17) ∗ (a18.view.loc (c : Thread nD τ) ↦[a18.view.set]{fullShare} X18)
    ∗ (a19.view.loc (c : Thread nD τ) ↦[a19.view.set]{fullShare} X19) ∗ (a20.view.loc (c : Thread nD τ) ↦[a20.view.set]{fullShare} X20)
    ∗ (∃ f, (a16.view.loc (c : Thread nD τ) ↦[a16.view.set]{fullShare} f)
        ∗ ⌜f = a16.view.writes (Elt F) G16 (stores (regs v56 v58 v60 v62) (scr a17 a18 a19 a20 X17 X18 X19 X20) init k)⌝)
    ∗ ⌜acc = rows (regs v56 v58 v60 v62) (scr a17 a18 a19 a20 X17 X18 X19 X20) init k⌝)
  step k acc := by
    have hk : k.val < 400 := Nat.lt_of_lt_of_le k.isLt k1_t1_abs.2.1
    iintro ⟨H17, H18, H19, H20, ⟨%f, H16, %hf⟩, %ha⟩
    subst ha
    have ld17 := load_row (a17.view.read (Elt F) X17) k
    have ld18 := load_row (a18.view.read (Elt F) X18) k
    have ld19 := load_row (a19.view.read (Elt F) X19) k
    have ld20 := load_row (a20.view.read (Elt F) X20) k
    unfold k1_t1_body
    sl_exec
    sl_step
    isplitl [H17]; · iexact H17
    isplitl [H18]; · iexact H18
    isplitl [H19]; · iexact H19
    isplitl [H20]; · iexact H20
    isplitl [H16]
    · iexists _; isplitl [H16]; · iexact H16
      ipureintro
      rw [hf, stores_succ]
      exact (View.writes_append _ _ _ _).symm
    ipureintro; rfl

end Lstm

end Cert.KernelIdeal.Run

end
-- ==== Proof.KernelIdeal.LstmBody.lean ====
module

public import proofs.«01_k».proof.Proof.KernelIdeal.LstmLoop
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.ValueIdxCore
public import Idealize.ShloMosaic.Lib.Pipeline.ValueKit.Tiles
public import Idealize.ShloMosaic.Lib.Claim
public import Idealize.ShloMosaic.Lib.Ring
public import Idealize.ShloMosaic.Lib.Tactic

/-!
One block of the recurrence's body: the four gates' input part, the loop over the block's rows, and the carried hidden
and cell rows, for the first block (which starts from zeros) and for a later one.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ (UR sig nD τ) ℕ

namespace Lstm

/-- A whole-buffer access starts at the origin. -/
theorem off00 : (![0, 0] : Fin 2 → ℕ) = fun _ => 0 := by funext a; fin_cases a <;> rfl

/-- The loop makes one trip per row. -/
theorem trips_eq : k1_t1_loop.trips = 400 := by decide +kernel

/-- A block's weights on the hidden row. -/
def weights (x12 x13 x14 x15 : Vec F S64x64 .f32) : Weights F := ⟨k1_pay13 x12, k1_pay14 x13, k1_pay15 x14, k1_pay16 x15⟩

/-- A block's gates, input part. -/
def gates (x1 : Vec F S400x64 .f32) (x2 : Vec F S400x1 .f32) (x3 : Vec F S1x64 .f32) (x4 x5 x6 x7 : Vec F S64x64 .f32)
    (x8 x9 x10 x11 : Vec F S1x64 .f32) : Gates F :=
  ⟨k1_pay8 x2 x1 x3 x4 x8, k1_pay10 (k1_pay9 x2 x1 x3 x5 x9), k1_pay11 (k1_pay7 x2 x1 x3) x6 x10, k1_pay12 (k1_pay7 x2 x1 x3) x7 x11⟩

/-- The block of hidden rows: row `r` is the hidden row after `r + 1` steps. -/
def out (W : Weights F) (G : Gates F) (s : Vec F S1x64 .f32 × Vec F S1x64 .f32) : Vec F S400x64 .f32 :=
  fun y => (rows W G s ((y 0).val + 1)).1 (ix2 0 (y 1))

/-- The first `n` trips' stores, read back at a row below `n`. -/
theorem read_stores (a : View sig .tc .vmem S400x64 .f32) (G0 : a.ty.Contents (Elt F)) (W : Weights F) (G : Gates F)
    (s : Vec F S1x64 .f32 × Vec F S1x64 .f32) (y : S400x64.Idx) :
    ∀ n, n ≤ k1_t1_loop.trips → (y 0).val < n → a.read (Elt F) (a.writes (Elt F) G0 (stores W G s n)) y = out W G s y
  | 0, _, h => absurd h (Nat.not_lt_zero _)
  | n + 1, hn, h => by
    have hn' : n < k1_t1_loop.trips := hn
    rw [stores_succ W G s ⟨n, hn'⟩]
    by_cases hy : (y 0).val = n
    · refine (View.read_writes_cons_rows_of_mem (d := ![400, 64]) a G0 (size := S1x64.size) _ _ _ y (ix2 0 (y 1)) (k1_off1_eq ⟨n, hn'⟩) ?_ rfl).trans ?_
      · show (y 0).val = n + 0; omega
      · subst hy; rfl
    · rw [View.read_writes_cons_rows_of_not_mem a G0 _ _ _ y (k1_off1_eq ⟨n, hn'⟩) (W := 1) rfl (Or.inl (by show (y 0).val < n; omega))]
      exact read_stores a G0 W G s y n (Nat.le_of_lt hn') (by omega)

/-- A store of a whole buffer, last, is what the buffer then reads. -/
theorem read_whole {S : Shape} (a : View sig .tc .vmem S .f32) (f : a.ty.Contents (Elt F)) {off : Fin S.rank → ℕ} (h : off = fun _ => 0)
    (inb : ∀ k, off k + S.size k ≤ S.size k) (w : S.Idx → Elt F .f32) (L : List (View.Piece (Elt F) S .f32)) :
    a.read (Elt F) (a.writes (Elt F) f (⟨Rect.unit off S.size inb, w⟩ :: L)) = w := by
  refine (View.read_writes_eq_canon _ _ _ fun y => ⟨_, List.mem_cons_self, View.mem_set_unit_zero h inb y⟩).trans (View.canon_cons_unit_zero h inb w L)

/-- A load of a whole buffer reads its contents. -/
theorem load_whole {S : Shape} (a : View sig .tc .vmem S .f32) (f : a.ty.Contents (Elt F)) {off : Fin S.rank → ℕ}
    (inb : ∀ k, off k + S.size k ≤ S.size k) : a.readAt (Elt F) (Rect.unit off S.size inb).toLoadRect f = a.read (Elt F) f :=
  View.ld_unit_zero (funext fun k => by have := inb k; omega) inb (a.read (Elt F) f)

/-- A run's gates are the block's, when its loads are the block's contents. -/
theorem gates_eq {A B C D : Vec F S400x64 .f32} {x1 y1 : Vec F S400x64 .f32} {x2 y2 : Vec F S400x1 .f32} {x3 y3 : Vec F S1x64 .f32}
    {x4 x5 x6 x7 y4 y5 y6 y7 : Vec F S64x64 .f32} {x8 x9 x10 x11 y8 y9 y10 y11 : Vec F S1x64 .f32}
    (h1 : A = k1_pay8 x2 x1 x3 x4 x8) (h2 : B = k1_pay10 (k1_pay9 x2 x1 x3 x5 x9)) (h3 : C = k1_pay11 (k1_pay7 x2 x1 x3) x6 x10)
    (h4 : D = k1_pay12 (k1_pay7 x2 x1 x3) x7 x11) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) :
    (⟨A, B, C, D⟩ : Gates F) = gates y1 y2 y3 y4 y5 y6 y7 y8 y9 y10 y11 := by
  subst h1 h2 h3 h4 e1 e2 e3 e4 e5 e6 e7 e8 e9 e10 e11; rfl

/-- Likewise its weights. -/
theorem weights_eq {A B C D : Vec F S64x64 .f32} {x12 x13 x14 x15 y12 y13 y14 y15 : Vec F S64x64 .f32} (h1 : A = k1_pay13 x12) (h2 : B = k1_pay14 x13)
    (h3 : C = k1_pay15 x14) (h4 : D = k1_pay16 x15) (e12 : x12 = y12) (e13 : x13 = y13) (e14 : x14 = y14)
    (e15 : x15 = y15) : (⟨A, B, C, D⟩ : Weights F) = weights y12 y13 y14 y15 := by
  subst h1 h2 h3 h4 e12 e13 e14 e15; rfl

/-- What the output block holds after the loop. -/
theorem fill (a : View sig .tc .vmem S400x64 .f32) (G0 : a.ty.Contents (Elt F)) {W W' : Weights F} {G G' : Gates F}
    {s s' : Vec F S1x64 .f32 × Vec F S1x64 .f32} (hW : W = W') (hG : G = G') (hs : s = s') :
    a.read (Elt F) (a.writes (Elt F) G0 (stores W G s k1_t1_loop.trips)) = out W' G' s' := by
  subst hW hG hs
  funext y
  exact read_stores a G0 W G s y _ (Nat.le_refl _) (by rw [trips_eq]; exact (y 0).isLt)

/-- The carried pair after the loop. -/
theorem last {W W' : Weights F} {G G' : Gates F} {s s' : Vec F S1x64 .f32 × Vec F S1x64 .f32} (hW : W = W') (hG : G = G') (hs : s = s') :
    rows W G s k1_t1_loop.trips = rows W' G' s' 400 := by
  subst hW hG hs; rw [trips_eq]

set_option maxHeartbeats 4000000 in
/-- The body on whole buffers, for the first block: it starts from zeros. It keeps the inputs, fills the output block with the hidden rows, and
    leaves the last pair in the scratch. -/
theorem body_first (c : Dev nD) (E : Set ℕ) (i : grid1.Coords) (hc : (Scalar.cmpi .ne (Scalar.extui (Scalar.cmpi .eq (BitVec.ofNat 32 (i 0).val) 0#32)) 0#32) = 1#1) (a1 : Memref sig .tc .vmem S400x64 .f32) (h1 : a1.IsWhole) (a2 : Memref sig .tc .vmem S400x1 .f32) (h2 : a2.IsWhole) (a3 : Memref sig .tc .vmem S1x64 .f32) (h3 : a3.IsWhole) (a4 : Memref sig .tc .vmem S64x64 .f32) (h4 : a4.IsWhole) (a5 : Memref sig .tc .vmem S64x64 .f32) (h5 : a5.IsWhole) (a6 : Memref sig .tc .vmem S64x64 .f32) (h6 : a6.IsWhole) (a7 : Memref sig .tc .vmem S64x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x64 .f32) (h11 : a11.IsWhole) (a12 : Memref sig .tc .vmem S64x64 .f32) (h12 : a12.IsWhole) (a13 : Memref sig .tc .vmem S64x64 .f32) (h13 : a13.IsWhole) (a14 : Memref sig .tc .vmem S64x64 .f32) (h14 : a14.IsWhole) (a15 : Memref sig .tc .vmem S64x64 .f32) (h15 : a15.IsWhole) (a16 : Memref sig .tc .vmem S400x64 .f32) (h16 : a16.IsWhole) (a17 : Memref sig .tc .vmem S400x64 .f32) (h17 : a17.IsWhole) (a18 : Memref sig .tc .vmem S400x64 .f32) (h18 : a18.IsWhole) (a19 : Memref sig .tc .vmem S400x64 .f32) (h19 : a19.IsWhole) (a20 : Memref sig .tc .vmem S400x64 .f32) (h20 : a20.IsWhole) (a21 : Memref sig .tc .vmem S1x64 .f32) (h21 : a21.IsWhole) (a22 : Memref sig .tc .vmem S1x64 .f32) (h22 : a22.IsWhole)
    (x1 : Vec F S400x64 .f32) (x2 : Vec F S400x1 .f32) (x3 : Vec F S1x64 .f32) (x4 : Vec F S64x64 .f32) (x5 : Vec F S64x64 .f32) (x6 : Vec F S64x64 .f32) (x7 : Vec F S64x64 .f32) (x8 : Vec F S1x64 .f32) (x9 : Vec F S1x64 .f32) (x10 : Vec F S1x64 .f32) (x11 : Vec F S1x64 .f32) (x12 : Vec F S64x64 .f32) (x13 : Vec F S64x64 .f32) (x14 : Vec F S64x64 .f32) (x15 : Vec F S64x64 .f32) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ (∃ e, owns (c : Thread nD τ) a16 fullShare e) ∗ (∃ e, owns (c : Thread nD τ) a17 fullShare e) ∗ (∃ e, owns (c : Thread nD τ) a18 fullShare e) ∗ (∃ e, owns (c : Thread nD τ) a19 fullShare e) ∗ (∃ e, owns (c : Thread nD τ) a20 fullShare e) ∗ (∃ e, owns (c : Thread nD τ) a21 fullShare e) ∗ (∃ e, owns (c : Thread nD τ) a22 fullShare e)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare (out (weights x12 x13 x14 x15) (gates x1 x2 x3 x4 x5 x6 x7 x8 x9 x10 x11) (k1_pay5, k1_pay6)) ∗ (∃ e, owns (c : Thread nD τ) a17 fullShare e) ∗ (∃ e, owns (c : Thread nD τ) a18 fullShare e) ∗ (∃ e, owns (c : Thread nD τ) a19 fullShare e) ∗ (∃ e, owns (c : Thread nD τ) a20 fullShare e)
            ∗ owns (c : Thread nD τ) a21 fullShare (rows (weights x12 x13 x14 x15) (gates x1 x2 x3 x4 x5 x6 x7 x8 x9 x10 x11) (k1_pay5, k1_pay6) 400).1 ∗ owns (c : Thread nD τ) a22 fullShare (rows (weights x12 x13 x14 x15) (gates x1 x2 x3 x4 x5 x6 x7 x8 x9 x10 x11) (k1_pay5, k1_pay6) 400).2) -∗ K ⟨⟩))
      ⊢ wp frame (wpE (defs₀ (F := F)) Variants.none c none) E (cc1__lstm_kernel i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) K := by
  simp only [cc1__lstm_kernel_eq_skeleton]; unfold cc1__lstm_kernel_skel
  simp only [k1_part1_eq_skeleton, k1_part2_eq_skeleton]; unfold k1_part1_skel k1_part2_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst e1 e2 e3 e4 e5 e6 e7 e8 e9 e10 e11 e12 e13 e14 e15
  sl_exec (disch := first | sl_exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine fill _ _ ?_ ?_ ?_
    · dsimp only; refine weights_eq rfl rfl rfl rfl ?_ ?_ ?_ ?_ <;> exact load_whole (S := S64x64) _ _ _
    · exact gates_eq (read_whole _ _ off00 _ _ _) (read_whole _ _ off00 _ _ _) (read_whole _ _ off00 _ _ _) (read_whole _ _ off00 _ _ _)
        (load_whole _ _ _) (load_whole _ _ _) (load_whole _ _ _) (load_whole _ _ _) (load_whole _ _ _) (load_whole _ _ _)
        (load_whole _ _ _) (load_whole _ _ _) (load_whole _ _ _) (load_whole _ _ _) (load_whole _ _ _)
    · refine Prod.ext ?_ ?_ <;> exact View.readCov_unit_zero (S := S1x64) _ off00 _ _
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; isplitr
    swap; · iexact H21
    ipureintro
    refine (read_whole _ _ off00 _ _ _).trans ((shapeCast_self _ _).trans (congrArg Prod.fst (last ?_ ?_ ?_)))
    · dsimp only; refine weights_eq rfl rfl rfl rfl ?_ ?_ ?_ ?_ <;> exact load_whole (S := S64x64) _ _ _
    · exact gates_eq (read_whole _ _ off00 _ _ _) (read_whole _ _ off00 _ _ _) (read_whole _ _ off00 _ _ _) (read_whole _ _ off00 _ _ _)
        (load_whole _ _ _) (load_whole _ _ _) (load_whole _ _ _) (load_whole _ _ _) (load_whole _ _ _) (load_whole _ _ _)
        (load_whole _ _ _) (load_whole _ _ _) (load_whole _ _ _) (load_whole _ _ _) (load_whole _ _ _)
    · refine Prod.ext ?_ ?_ <;> exact View.readCov_unit_zero (S := S1x64) _ off00 _ _
  iexists _; isplitr
  swap; · iexact H22
  ipureintro
  refine (read_whole _ _ off00 _ _ _).trans ((shapeCast_self _ _).trans (congrArg Prod.snd (last ?_ ?_ ?_)))
  · dsimp only; refine weights_eq rfl rfl rfl rfl ?_ ?_ ?_ ?_ <;> exact load_whole (S := S64x64) _ _ _
  · exact gates_eq (read_whole _ _ off00 _ _ _) (read_whole _ _ off00 _ _ _) (read_whole _ _ off00 _ _ _) (read_whole _ _ off00 _ _ _)
        (load_whole _ _ _) (load_whole _ _ _) (load_whole _ _ _) (load_whole _ _ _) (load_whole _ _ _) (load_whole _ _ _)
        (load_whole _ _ _) (load_whole _ _ _) (load_whole _ _ _) (load_whole _ _ _) (load_whole _ _ _)
  · refine Prod.ext ?_ ?_ <;> exact View.readCov_unit_zero (S := S1x64) _ off00 _ _

set_option maxHeartbeats 4000000 in
/-- The body on whole buffers, for a later block: it starts from the pair the scratch carries. It keeps the inputs, fills the output block with the hidden rows, and
    leaves the last pair in the scratch. -/
theorem body_later (c : Dev nD) (E : Set ℕ) (i : grid1.Coords) (hc : ¬ (Scalar.cmpi .ne (Scalar.extui (Scalar.cmpi .eq (BitVec.ofNat 32 (i 0).val) 0#32)) 0#32) = 1#1) (a1 : Memref sig .tc .vmem S400x64 .f32) (h1 : a1.IsWhole) (a2 : Memref sig .tc .vmem S400x1 .f32) (h2 : a2.IsWhole) (a3 : Memref sig .tc .vmem S1x64 .f32) (h3 : a3.IsWhole) (a4 : Memref sig .tc .vmem S64x64 .f32) (h4 : a4.IsWhole) (a5 : Memref sig .tc .vmem S64x64 .f32) (h5 : a5.IsWhole) (a6 : Memref sig .tc .vmem S64x64 .f32) (h6 : a6.IsWhole) (a7 : Memref sig .tc .vmem S64x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x64 .f32) (h11 : a11.IsWhole) (a12 : Memref sig .tc .vmem S64x64 .f32) (h12 : a12.IsWhole) (a13 : Memref sig .tc .vmem S64x64 .f32) (h13 : a13.IsWhole) (a14 : Memref sig .tc .vmem S64x64 .f32) (h14 : a14.IsWhole) (a15 : Memref sig .tc .vmem S64x64 .f32) (h15 : a15.IsWhole) (a16 : Memref sig .tc .vmem S400x64 .f32) (h16 : a16.IsWhole) (a17 : Memref sig .tc .vmem S400x64 .f32) (h17 : a17.IsWhole) (a18 : Memref sig .tc .vmem S400x64 .f32) (h18 : a18.IsWhole) (a19 : Memref sig .tc .vmem S400x64 .f32) (h19 : a19.IsWhole) (a20 : Memref sig .tc .vmem S400x64 .f32) (h20 : a20.IsWhole) (a21 : Memref sig .tc .vmem S1x64 .f32) (h21 : a21.IsWhole) (a22 : Memref sig .tc .vmem S1x64 .f32) (h22 : a22.IsWhole)
    (x1 : Vec F S400x64 .f32) (x2 : Vec F S400x1 .f32) (x3 : Vec F S1x64 .f32) (x4 : Vec F S64x64 .f32) (x5 : Vec F S64x64 .f32) (x6 : Vec F S64x64 .f32) (x7 : Vec F S64x64 .f32) (x8 : Vec F S1x64 .f32) (x9 : Vec F S1x64 .f32) (x10 : Vec F S1x64 .f32) (x11 : Vec F S1x64 .f32) (x12 : Vec F S64x64 .f32) (x13 : Vec F S64x64 .f32) (x14 : Vec F S64x64 .f32) (x15 : Vec F S64x64 .f32) (s : Vec F S1x64 .f32 × Vec F S1x64 .f32) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ (∃ e, owns (c : Thread nD τ) a16 fullShare e) ∗ (∃ e, owns (c : Thread nD τ) a17 fullShare e) ∗ (∃ e, owns (c : Thread nD τ) a18 fullShare e) ∗ (∃ e, owns (c : Thread nD τ) a19 fullShare e) ∗ (∃ e, owns (c : Thread nD τ) a20 fullShare e) ∗ owns (c : Thread nD τ) a21 fullShare s.1 ∗ owns (c : Thread nD τ) a22 fullShare s.2
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare (out (weights x12 x13 x14 x15) (gates x1 x2 x3 x4 x5 x6 x7 x8 x9 x10 x11) s) ∗ (∃ e, owns (c : Thread nD τ) a17 fullShare e) ∗ (∃ e, owns (c : Thread nD τ) a18 fullShare e) ∗ (∃ e, owns (c : Thread nD τ) a19 fullShare e) ∗ (∃ e, owns (c : Thread nD τ) a20 fullShare e)
            ∗ owns (c : Thread nD τ) a21 fullShare (rows (weights x12 x13 x14 x15) (gates x1 x2 x3 x4 x5 x6 x7 x8 x9 x10 x11) s 400).1 ∗ owns (c : Thread nD τ) a22 fullShare (rows (weights x12 x13 x14 x15) (gates x1 x2 x3 x4 x5 x6 x7 x8 x9 x10 x11) s 400).2) -∗ K ⟨⟩))
      ⊢ wp frame (wpE (defs₀ (F := F)) Variants.none c none) E (cc1__lstm_kernel i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) K := by
  simp only [cc1__lstm_kernel_eq_skeleton]; unfold cc1__lstm_kernel_skel
  simp only [k1_part1_eq_skeleton, k1_part2_eq_skeleton]; unfold k1_part1_skel k1_part2_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%d16, %f16, -, H16⟩, ⟨%d17, %f17, -, H17⟩, ⟨%d18, %f18, -, H18⟩, ⟨%d19, %f19, -, H19⟩, ⟨%d20, %f20, -, H20⟩, ⟨%f21, %e21, H21⟩, ⟨%f22, %e22, H22⟩, Hk⟩
  subst e1 e2 e3 e4 e5 e6 e7 e8 e9 e10 e11 e12 e13 e14 e15
  obtain ⟨s1, s2⟩ := s
  simp only at e21 e22
  subst e21 e22
  sl_exec (disch := first | sl_exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine fill _ _ ?_ ?_ ?_
    · dsimp only; refine weights_eq rfl rfl rfl rfl ?_ ?_ ?_ ?_ <;> exact load_whole (S := S64x64) _ _ _
    · exact gates_eq (read_whole _ _ off00 _ _ _) (read_whole _ _ off00 _ _ _) (read_whole _ _ off00 _ _ _) (read_whole _ _ off00 _ _ _)
        (load_whole _ _ _) (load_whole _ _ _) (load_whole _ _ _) (load_whole _ _ _) (load_whole _ _ _) (load_whole _ _ _)
        (load_whole _ _ _) (load_whole _ _ _) (load_whole _ _ _) (load_whole _ _ _) (load_whole _ _ _)
    · refine Prod.ext ?_ ?_ <;> exact load_whole (S := S1x64) _ _ _
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; isplitr
    swap; · iexact H21
    ipureintro
    refine (read_whole _ _ off00 _ _ _).trans ((shapeCast_self _ _).trans (congrArg Prod.fst (last ?_ ?_ ?_)))
    · dsimp only; refine weights_eq rfl rfl rfl rfl ?_ ?_ ?_ ?_ <;> exact load_whole (S := S64x64) _ _ _
    · exact gates_eq (read_whole _ _ off00 _ _ _) (read_whole _ _ off00 _ _ _) (read_whole _ _ off00 _ _ _) (read_whole _ _ off00 _ _ _)
        (load_whole _ _ _) (load_whole _ _ _) (load_whole _ _ _) (load_whole _ _ _) (load_whole _ _ _) (load_whole _ _ _)
        (load_whole _ _ _) (load_whole _ _ _) (load_whole _ _ _) (load_whole _ _ _) (load_whole _ _ _)
    · refine Prod.ext ?_ ?_ <;> exact load_whole (S := S1x64) _ _ _
  iexists _; isplitr
  swap; · iexact H22
  ipureintro
  refine (read_whole _ _ off00 _ _ _).trans ((shapeCast_self _ _).trans (congrArg Prod.snd (last ?_ ?_ ?_)))
  · dsimp only; refine weights_eq rfl rfl rfl rfl ?_ ?_ ?_ ?_ <;> exact load_whole (S := S64x64) _ _ _
  · exact gates_eq (read_whole _ _ off00 _ _ _) (read_whole _ _ off00 _ _ _) (read_whole _ _ off00 _ _ _) (read_whole _ _ off00 _ _ _)
        (load_whole _ _ _) (load_whole _ _ _) (load_whole _ _ _) (load_whole _ _ _) (load_whole _ _ _) (load_whole _ _ _)
        (load_whole _ _ _) (load_whole _ _ _) (load_whole _ _ _) (load_whole _ _ _) (load_whole _ _ _)
  · refine Prod.ext ?_ ?_ <;> exact load_whole (S := S1x64) _ _ _

end Lstm

end Cert.KernelIdeal.Run

end
-- ==== Proof.KernelIdeal.Lstm.lean ====
module

public import proofs.«01_k».proof.Proof.KernelIdeal.LstmBody
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.ValueIdxCore
public import Idealize.ShloMosaic.Lib.Pipeline.ValueKit.Tiles
public import Idealize.ShloMosaic.Lib.Claim
public import Idealize.ShloMosaic.Lib.Ring
public import Idealize.ShloMosaic.Lib.Tactic
public import Idealize.ShloMosaic.Lib.WordCmp

/-!
The recurrence's region, point by point: what each window's staging buffer holds, and the hidden and cell rows that the
scratch carries from one point to the next.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

namespace Lstm

variable (V : Dev nD → Valuation τ sig (Elt F))

/-- Window `w`'s block at point `t`, read from what the region finds. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The weights on the hidden row that point `t` finds. -/
def wts (c : Dev nD) (t : Fin cfg1.N) : Weights F := weights (blk V c 11 t) (blk V c 12 t) (blk V c 13 t) (blk V c 14 t)

/-- The gates' input part at point `t`. -/
def gts (c : Dev nD) (t : Fin cfg1.N) : Gates F :=
  gates (blk V c 0 t) (blk V c 1 t) (blk V c 2 t) (blk V c 3 t) (blk V c 4 t) (blk V c 5 t) (blk V c 6 t) (blk V c 7 t) (blk V c 8 t) (blk V c 9 t) (blk V c 10 t)

/-- Point `n`. -/
def pt (n : ℕ) : Fin cfg1.N := ⟨n % grid1.N, Nat.mod_lt _ (by rw [N_1]; decide)⟩

/-- The point of a point's number. -/
theorem pt_val (t : Fin cfg1.N) : pt t.val = t := Fin.ext (Nat.mod_eq_of_lt t.isLt)

/-- The hidden and cell rows carried into point `n`: zeros, then what each block leaves. -/
def carry (c : Dev nD) : ℕ → Vec F S1x64 .f32 × Vec F S1x64 .f32
  | 0 => (k1_pay5, k1_pay6)
  | n + 1 => rows (wts V c (pt n)) (gts V c (pt n)) (carry c n) 400

/-- What a point leaves for the next. -/
theorem carry_succ (c : Dev nD) (t : Fin cfg1.N) : carry V c (t.val + 1) = rows (wts V c t) (gts V c t) (carry V c t.val) 400 := by
  rw [carry, pt_val]

/-- The scoped buffers the region leaves alone. -/
def spare (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- What a point finds in the scratch: the gate arrays at anything, the carried pair (at the first point, anything). -/
def held (c : Dev nD) (n : ℕ) : sProp 𝕄 :=
  iprop(spare (F := F) c ∗ (∃ e : Vec F S400x64 .f32, owns (c : Thread nD τ) (Memref.whole cc1_scratch0) fullShare e) ∗ (∃ e : Vec F S400x64 .f32, owns (c : Thread nD τ) (Memref.whole cc1_scratch1) fullShare e) ∗ (∃ e : Vec F S400x64 .f32, owns (c : Thread nD τ) (Memref.whole cc1_scratch2) fullShare e) ∗ (∃ e : Vec F S400x64 .f32, owns (c : Thread nD τ) (Memref.whole cc1_scratch3) fullShare e)
    ∗ (∃ h : Vec F S1x64 .f32, ⌜n ≠ 0 → h = (carry V c n).1⌝ ∗ owns (c : Thread nD τ) (Memref.whole cc1_scratch4) fullShare h)
    ∗ (∃ h : Vec F S1x64 .f32, ⌜n ≠ 0 → h = (carry V c n).2⌝ ∗ owns (c : Thread nD τ) (Memref.whole cc1_scratch5) fullShare h))

/-- At the first point the scratch holds anything. -/
theorem held_in (c : Dev nD) : (Pipeline.scopedRest (Ix := Unit) (Name := ℕ) (U := UR sig nD τ) (Lvl := ℕ) (Val := Elt F) spec1 c : sProp 𝕄) ⊢ held V c 0 := by
  rw [scopedRest1_eq]
  unfold held spare
  simp only [owns_whole]
  iintro ⟨B0, B1, B2, B3, B4, B5, B6, B7, B8, B9, B10, B11, B12, B13, B14⟩
  isplitl [B0 B1 B2 B3 B4 B5 B6 B7 B8]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  isplitl [B9]; · iexact B9
  isplitl [B10]; · iexact B10
  isplitl [B11]; · iexact B11
  isplitl [B12]; · iexact B12
  isplitl [B13]
  · icases B13 with ⟨%f, B13⟩
    iexists f; isplitr; · ipureintro; exact fun h => absurd rfl h
    iexact B13
  icases B14 with ⟨%f, B14⟩
  iexists f; isplitr; · ipureintro; exact fun h => absurd rfl h
  iexact B14

/-- Whatever it holds, the scoped buffers are there. -/
theorem held_out (c : Dev nD) (n : ℕ) :
    held V c n ⊢ (Pipeline.scopedRest (Ix := Unit) (Name := ℕ) (U := UR sig nD τ) (Lvl := ℕ) (Val := Elt F) spec1 c : sProp 𝕄) := by
  rw [scopedRest1_eq]
  unfold held spare
  simp only [owns_whole]
  iintro ⟨⟨B0, B1, B2, B3, B4, B5, B6, B7, B8⟩, B9, B10, B11, B12, ⟨%f, -, B13⟩, ⟨%g, -, B14⟩⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexists f; iexact B13
  iexists g; iexact B14

/-- What one core's run of the region keeps and leaves, point by point. -/
def dat (c : Dev nD) : Dat τ (Elt F) Unit ℕ (UR sig nD τ) ℕ cfg1 c where
  A w := V c (Proc.devRef .tc (Pipeline.arrRef spec1 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => blk V c 12 t
    | ⟨13, _⟩ => blk V c 13 t
    | ⟨14, _⟩ => blk V c 14 t
    | ⟨15, _⟩ => out (wts V c t) (gts V c t) (carry V c t.val)
    | ⟨_ + 16, h⟩ => absurd h (Nat.not_lt.2 (Nat.le_add_left _ _))
  Φ t := held V c t.val
  q _ := fullShare
  owed _ := 0

/-- What each window's array holds at the start. -/
theorem A_eq (c : Dev nD) (w : Fin cfg1.W) : (dat V c).A w = V c (Proc.devRef .tc (Pipeline.arrRef spec1 w)) := by dsimp only [dat]
/-- The point leaves this input block as it was. -/
theorem after_0 (c : Dev nD) (t : Fin cfg1.N) : (dat V c).after 0 t = blk V c 0 t := by dsimp only [dat]
/-- The point leaves this input block as it was. -/
theorem after_1 (c : Dev nD) (t : Fin cfg1.N) : (dat V c).after 1 t = blk V c 1 t := by dsimp only [dat]
/-- The point leaves this input block as it was. -/
theorem after_2 (c : Dev nD) (t : Fin cfg1.N) : (dat V c).after 2 t = blk V c 2 t := by dsimp only [dat]
/-- The point leaves this input block as it was. -/
theorem after_3 (c : Dev nD) (t : Fin cfg1.N) : (dat V c).after 3 t = blk V c 3 t := by dsimp only [dat]
/-- The point leaves this input block as it was. -/
theorem after_4 (c : Dev nD) (t : Fin cfg1.N) : (dat V c).after 4 t = blk V c 4 t := by dsimp only [dat]
/-- The point leaves this input block as it was. -/
theorem after_5 (c : Dev nD) (t : Fin cfg1.N) : (dat V c).after 5 t = blk V c 5 t := by dsimp only [dat]
/-- The point leaves this input block as it was. -/
theorem after_6 (c : Dev nD) (t : Fin cfg1.N) : (dat V c).after 6 t = blk V c 6 t := by dsimp only [dat]
/-- The point leaves this input block as it was. -/
theorem after_7 (c : Dev nD) (t : Fin cfg1.N) : (dat V c).after 7 t = blk V c 7 t := by dsimp only [dat]
/-- The point leaves this input block as it was. -/
theorem after_8 (c : Dev nD) (t : Fin cfg1.N) : (dat V c).after 8 t = blk V c 8 t := by dsimp only [dat]
/-- The point leaves this input block as it was. -/
theorem after_9 (c : Dev nD) (t : Fin cfg1.N) : (dat V c).after 9 t = blk V c 9 t := by dsimp only [dat]
/-- The point leaves this input block as it was. -/
theorem after_10 (c : Dev nD) (t : Fin cfg1.N) : (dat V c).after 10 t = blk V c 10 t := by dsimp only [dat]
/-- The point leaves this input block as it was. -/
theorem after_11 (c : Dev nD) (t : Fin cfg1.N) : (dat V c).after 11 t = blk V c 11 t := by dsimp only [dat]
/-- The point leaves this input block as it was. -/
theorem after_12 (c : Dev nD) (t : Fin cfg1.N) : (dat V c).after 12 t = blk V c 12 t := by dsimp only [dat]
/-- The point leaves this input block as it was. -/
theorem after_13 (c : Dev nD) (t : Fin cfg1.N) : (dat V c).after 13 t = blk V c 13 t := by dsimp only [dat]
/-- The point leaves this input block as it was. -/
theorem after_14 (c : Dev nD) (t : Fin cfg1.N) : (dat V c).after 14 t = blk V c 14 t := by dsimp only [dat]
/-- The point leaves the block of hidden rows. -/
theorem after_15 (c : Dev nD) (t : Fin cfg1.N) :
    (dat V c).after 15 t = out (wts V c t) (gts V c t) (carry V c t.val) := by dsimp only [dat]

/-- An input's staging buffer holds its block at every point. -/
theorem before_of {c : Dev nD} (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hk : ∀ t, (cfg1.win w).cut (cfg1.grid.coords t) ((dat V c).after w t) = (dat V c).blockOf w t)
    (t : Fin cfg1.N) (d) : (dat V c).before w t d = (dat V c).fetched w t d :=
  (dat V c).before_in_eq_fetched w hw hlive hclip hk t d

/-- The point finds this input block. -/
theorem before_0 (c : Dev nD) (t : Fin cfg1.N) (d) : (dat V c).before 0 t d = blk V c 0 t :=
  (before_of V 0 rfl (fun _ => rfl) (fun _ _ _ => rfl) (fun t => by rw [after_0]; unfold Dat.blockOf blk; rw [A_eq]) t d).trans
    (by unfold Dat.fetched Dat.blockOf blk; rw [A_eq]; rfl)
/-- The point finds this input block. -/
theorem before_1 (c : Dev nD) (t : Fin cfg1.N) (d) : (dat V c).before 1 t d = blk V c 1 t :=
  (before_of V 1 rfl (fun _ => rfl) (fun _ _ _ => rfl) (fun t => by rw [after_1]; unfold Dat.blockOf blk; rw [A_eq]) t d).trans
    (by unfold Dat.fetched Dat.blockOf blk; rw [A_eq]; rfl)
/-- The point finds this input block. -/
theorem before_2 (c : Dev nD) (t : Fin cfg1.N) (d) : (dat V c).before 2 t d = blk V c 2 t :=
  (before_of V 2 rfl (fun _ => rfl) (fun _ _ _ => rfl) (fun t => by rw [after_2]; unfold Dat.blockOf blk; rw [A_eq]) t d).trans
    (by unfold Dat.fetched Dat.blockOf blk; rw [A_eq]; rfl)
/-- The point finds this input block. -/
theorem before_3 (c : Dev nD) (t : Fin cfg1.N) (d) : (dat V c).before 3 t d = blk V c 3 t :=
  (before_of V 3 rfl (fun _ => rfl) (fun _ _ _ => rfl) (fun t => by rw [after_3]; unfold Dat.blockOf blk; rw [A_eq]) t d).trans
    (by unfold Dat.fetched Dat.blockOf blk; rw [A_eq]; rfl)
/-- The point finds this input block. -/
theorem before_4 (c : Dev nD) (t : Fin cfg1.N) (d) : (dat V c).before 4 t d = blk V c 4 t :=
  (before_of V 4 rfl (fun _ => rfl) (fun _ _ _ => rfl) (fun t => by rw [after_4]; unfold Dat.blockOf blk; rw [A_eq]) t d).trans
    (by unfold Dat.fetched Dat.blockOf blk; rw [A_eq]; rfl)
/-- The point finds this input block. -/
theorem before_5 (c : Dev nD) (t : Fin cfg1.N) (d) : (dat V c).before 5 t d = blk V c 5 t :=
  (before_of V 5 rfl (fun _ => rfl) (fun _ _ _ => rfl) (fun t => by rw [after_5]; unfold Dat.blockOf blk; rw [A_eq]) t d).trans
    (by unfold Dat.fetched Dat.blockOf blk; rw [A_eq]; rfl)
/-- The point finds this input block. -/
theorem before_6 (c : Dev nD) (t : Fin cfg1.N) (d) : (dat V c).before 6 t d = blk V c 6 t :=
  (before_of V 6 rfl (fun _ => rfl) (fun _ _ _ => rfl) (fun t => by rw [after_6]; unfold Dat.blockOf blk; rw [A_eq]) t d).trans
    (by unfold Dat.fetched Dat.blockOf blk; rw [A_eq]; rfl)
/-- The point finds this input block. -/
theorem before_7 (c : Dev nD) (t : Fin cfg1.N) (d) : (dat V c).before 7 t d = blk V c 7 t :=
  (before_of V 7 rfl (fun _ => rfl) (fun _ _ _ => rfl) (fun t => by rw [after_7]; unfold Dat.blockOf blk; rw [A_eq]) t d).trans
    (by unfold Dat.fetched Dat.blockOf blk; rw [A_eq]; rfl)
/-- The point finds this input block. -/
theorem before_8 (c : Dev nD) (t : Fin cfg1.N) (d) : (dat V c).before 8 t d = blk V c 8 t :=
  (before_of V 8 rfl (fun _ => rfl) (fun _ _ _ => rfl) (fun t => by rw [after_8]; unfold Dat.blockOf blk; rw [A_eq]) t d).trans
    (by unfold Dat.fetched Dat.blockOf blk; rw [A_eq]; rfl)
/-- The point finds this input block. -/
theorem before_9 (c : Dev nD) (t : Fin cfg1.N) (d) : (dat V c).before 9 t d = blk V c 9 t :=
  (before_of V 9 rfl (fun _ => rfl) (fun _ _ _ => rfl) (fun t => by rw [after_9]; unfold Dat.blockOf blk; rw [A_eq]) t d).trans
    (by unfold Dat.fetched Dat.blockOf blk; rw [A_eq]; rfl)
/-- The point finds this input block. -/
theorem before_10 (c : Dev nD) (t : Fin cfg1.N) (d) : (dat V c).before 10 t d = blk V c 10 t :=
  (before_of V 10 rfl (fun _ => rfl) (fun _ _ _ => rfl) (fun t => by rw [after_10]; unfold Dat.blockOf blk; rw [A_eq]) t d).trans
    (by unfold Dat.fetched Dat.blockOf blk; rw [A_eq]; rfl)
/-- The point finds this input block. -/
theorem before_11 (c : Dev nD) (t : Fin cfg1.N) (d) : (dat V c).before 11 t d = blk V c 11 t :=
  (before_of V 11 rfl (fun _ => rfl) (fun _ _ _ => rfl) (fun t => by rw [after_11]; unfold Dat.blockOf blk; rw [A_eq]) t d).trans
    (by unfold Dat.fetched Dat.blockOf blk; rw [A_eq]; rfl)
/-- The point finds this input block. -/
theorem before_12 (c : Dev nD) (t : Fin cfg1.N) (d) : (dat V c).before 12 t d = blk V c 12 t :=
  (before_of V 12 rfl (fun _ => rfl) (fun _ _ _ => rfl) (fun t => by rw [after_12]; unfold Dat.blockOf blk; rw [A_eq]) t d).trans
    (by unfold Dat.fetched Dat.blockOf blk; rw [A_eq]; rfl)
/-- The point finds this input block. -/
theorem before_13 (c : Dev nD) (t : Fin cfg1.N) (d) : (dat V c).before 13 t d = blk V c 13 t :=
  (before_of V 13 rfl (fun _ => rfl) (fun _ _ _ => rfl) (fun t => by rw [after_13]; unfold Dat.blockOf blk; rw [A_eq]) t d).trans
    (by unfold Dat.fetched Dat.blockOf blk; rw [A_eq]; rfl)
/-- The point finds this input block. -/
theorem before_14 (c : Dev nD) (t : Fin cfg1.N) (d) : (dat V c).before 14 t d = blk V c 14 t :=
  (before_of V 14 rfl (fun _ => rfl) (fun _ _ _ => rfl) (fun t => by rw [after_14]; unfold Dat.blockOf blk; rw [A_eq]) t d).trans
    (by unfold Dat.fetched Dat.blockOf blk; rw [A_eq]; rfl)

/-- The body's first-block condition holds at point 0 alone. -/
theorem cond_iff (t : Fin cfg1.N) :
    (Scalar.cmpi .ne (Scalar.extui (Scalar.cmpi .eq (BitVec.ofNat 32 ((grid1.coords t) 0).val) 0#32)) 0#32) = 1#1 ↔ t.val = 0 := by
  have ht : t.val < 25 := by have := t.isLt; have h : cfg1.N = 25 := N_1; omega
  have e0 : ((grid1.coords t) 0).val = t.val / 1 % 25 := Pipeline.Grid.coords_val t 0 (by decide) rfl
  rw [e0, Nat.div_one, Nat.mod_eq_of_lt ht]
  generalize t.val = n at ht
  word_cmp

set_option maxHeartbeats 1000000 in
/-- The body at the first point, over the pipeline's own account of the staging buffers. -/
theorem at_first (c : Dev nD) (t : Fin cfg1.N) (hc0 : t.val = 0) :
    iprop((dat V c).Φ t.castSucc ∗ (dat V c).owesAt () t.castSucc ∗ (∃ d, owns (c : Thread nD τ) (st1_0 t) fullShare ((dat V c).before 0 t d)) ∗ (∃ d, owns (c : Thread nD τ) (st1_1 t) fullShare ((dat V c).before 1 t d)) ∗ (∃ d, owns (c : Thread nD τ) (st1_2 t) fullShare ((dat V c).before 2 t d)) ∗ (∃ d, owns (c : Thread nD τ) (st1_3 t) fullShare ((dat V c).before 3 t d)) ∗ (∃ d, owns (c : Thread nD τ) (st1_4 t) fullShare ((dat V c).before 4 t d)) ∗ (∃ d, owns (c : Thread nD τ) (st1_5 t) fullShare ((dat V c).before 5 t d)) ∗ (∃ d, owns (c : Thread nD τ) (st1_6 t) fullShare ((dat V c).before 6 t d)) ∗ (∃ d, owns (c : Thread nD τ) (st1_7 t) fullShare ((dat V c).before 7 t d)) ∗ (∃ d, owns (c : Thread nD τ) (st1_8 t) fullShare ((dat V c).before 8 t d)) ∗ (∃ d, owns (c : Thread nD τ) (st1_9 t) fullShare ((dat V c).before 9 t d)) ∗ (∃ d, owns (c : Thread nD τ) (st1_10 t) fullShare ((dat V c).before 10 t d)) ∗ (∃ d, owns (c : Thread nD τ) (st1_11 t) fullShare ((dat V c).before 11 t d)) ∗ (∃ d, owns (c : Thread nD τ) (st1_12 t) fullShare ((dat V c).before 12 t d)) ∗ (∃ d, owns (c : Thread nD τ) (st1_13 t) fullShare ((dat V c).before 13 t d)) ∗ (∃ d, owns (c : Thread nD τ) (st1_14 t) fullShare ((dat V c).before 14 t d)) ∗ (∃ d, owns (c : Thread nD τ) (st1_15 t) fullShare ((dat V c).before 15 t d)))
      ⊢ wp frame (wpE (defs₀ (F := F)) Variants.none c none) Set.univ (bodyAt1 t) (fun _ =>
        iprop((dat V c).Φ t.succ ∗ (dat V c).owesAt () t.succ ∗ owns (c : Thread nD τ) (st1_0 t) fullShare ((dat V c).after 0 t) ∗ owns (c : Thread nD τ) (st1_1 t) fullShare ((dat V c).after 1 t) ∗ owns (c : Thread nD τ) (st1_2 t) fullShare ((dat V c).after 2 t) ∗ owns (c : Thread nD τ) (st1_3 t) fullShare ((dat V c).after 3 t) ∗ owns (c : Thread nD τ) (st1_4 t) fullShare ((dat V c).after 4 t) ∗ owns (c : Thread nD τ) (st1_5 t) fullShare ((dat V c).after 5 t) ∗ owns (c : Thread nD τ) (st1_6 t) fullShare ((dat V c).after 6 t) ∗ owns (c : Thread nD τ) (st1_7 t) fullShare ((dat V c).after 7 t) ∗ owns (c : Thread nD τ) (st1_8 t) fullShare ((dat V c).after 8 t) ∗ owns (c : Thread nD τ) (st1_9 t) fullShare ((dat V c).after 9 t) ∗ owns (c : Thread nD τ) (st1_10 t) fullShare ((dat V c).after 10 t) ∗ owns (c : Thread nD τ) (st1_11 t) fullShare ((dat V c).after 11 t) ∗ owns (c : Thread nD τ) (st1_12 t) fullShare ((dat V c).after 12 t) ∗ owns (c : Thread nD τ) (st1_13 t) fullShare ((dat V c).after 13 t) ∗ owns (c : Thread nD τ) (st1_14 t) fullShare ((dat V c).after 14 t) ∗ owns (c : Thread nD τ) (st1_15 t) fullShare ((dat V c).after 15 t))) := by
  unfold bodyAt1
  simp only [before_0, before_1, before_2, before_3, before_4, before_5, before_6, before_7, before_8, before_9, before_10, before_11, before_12, before_13, before_14]
  rw [show (dat V c).Φ t.succ = held V c (t.val + 1) from rfl, show (dat V c).Φ t.castSucc = held V c t.val from rfl,
    show (dat V c).owesAt () t.succ = (dat V c).owesAt () t.castSucc from rfl,
    after_0, after_1, after_2, after_3, after_4, after_5, after_6, after_7, after_8, after_9, after_10, after_11, after_12, after_13, after_14, after_15]
  unfold held
  iintro ⟨⟨Hs, S0, S1, S2, S3, ⟨%h4, %e4, S4⟩, ⟨%h5, %e5, S5⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_first c Set.univ (grid1.coords t) ((cond_iff t).mpr hc0) _ _ _ _ _ _ _ _ _ _ _ _ _ _ _ _ _ _ _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (blk V c 13 t) (blk V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [S0]; · iexact S0
  isplitl [S1]; · iexact S1
  isplitl [S2]; · iexact S2
  isplitl [S3]; · iexact S3
  isplitl [S4]; · iexists _; iexact S4
  isplitl [S5]; · iexists _; iexact S5
  iintro ⟨H0, H1, H2, H3, H4, H5, H6, H7, H8, H9, H10, H11, H12, H13, H14, H15, S0, S1, S2, S3, S4, S5⟩
  isplitl [Hs S0 S1 S2 S3 S4 S5]
  · isplitl [Hs]; · iexact Hs
    isplitl [S0]; · iexact S0
    isplitl [S1]; · iexact S1
    isplitl [S2]; · iexact S2
    isplitl [S3]; · iexact S3
    isplitl [S4]
    · iexists _; isplitr
      swap; · iexact S4
      ipureintro; intro _; rw [carry_succ, hc0]; rfl
    iexists _; isplitr
    swap; · iexact S5
    ipureintro; intro _; rw [carry_succ, hc0]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  rw [hc0]; iexact H15

set_option maxHeartbeats 1000000 in
/-- The body at a later point, over the pipeline's own account of the staging buffers. -/
theorem at_later (c : Dev nD) (t : Fin cfg1.N) (hc0 : t.val ≠ 0) :
    iprop((dat V c).Φ t.castSucc ∗ (dat V c).owesAt () t.castSucc ∗ (∃ d, owns (c : Thread nD τ) (st1_0 t) fullShare ((dat V c).before 0 t d)) ∗ (∃ d, owns (c : Thread nD τ) (st1_1 t) fullShare ((dat V c).before 1 t d)) ∗ (∃ d, owns (c : Thread nD τ) (st1_2 t) fullShare ((dat V c).before 2 t d)) ∗ (∃ d, owns (c : Thread nD τ) (st1_3 t) fullShare ((dat V c).before 3 t d)) ∗ (∃ d, owns (c : Thread nD τ) (st1_4 t) fullShare ((dat V c).before 4 t d)) ∗ (∃ d, owns (c : Thread nD τ) (st1_5 t) fullShare ((dat V c).before 5 t d)) ∗ (∃ d, owns (c : Thread nD τ) (st1_6 t) fullShare ((dat V c).before 6 t d)) ∗ (∃ d, owns (c : Thread nD τ) (st1_7 t) fullShare ((dat V c).before 7 t d)) ∗ (∃ d, owns (c : Thread nD τ) (st1_8 t) fullShare ((dat V c).before 8 t d)) ∗ (∃ d, owns (c : Thread nD τ) (st1_9 t) fullShare ((dat V c).before 9 t d)) ∗ (∃ d, owns (c : Thread nD τ) (st1_10 t) fullShare ((dat V c).before 10 t d)) ∗ (∃ d, owns (c : Thread nD τ) (st1_11 t) fullShare ((dat V c).before 11 t d)) ∗ (∃ d, owns (c : Thread nD τ) (st1_12 t) fullShare ((dat V c).before 12 t d)) ∗ (∃ d, owns (c : Thread nD τ) (st1_13 t) fullShare ((dat V c).before 13 t d)) ∗ (∃ d, owns (c : Thread nD τ) (st1_14 t) fullShare ((dat V c).before 14 t d)) ∗ (∃ d, owns (c : Thread nD τ) (st1_15 t) fullShare ((dat V c).before 15 t d)))
      ⊢ wp frame (wpE (defs₀ (F := F)) Variants.none c none) Set.univ (bodyAt1 t) (fun _ =>
        iprop((dat V c).Φ t.succ ∗ (dat V c).owesAt () t.succ ∗ owns (c : Thread nD τ) (st1_0 t) fullShare ((dat V c).after 0 t) ∗ owns (c : Thread nD τ) (st1_1 t) fullShare ((dat V c).after 1 t) ∗ owns (c : Thread nD τ) (st1_2 t) fullShare ((dat V c).after 2 t) ∗ owns (c : Thread nD τ) (st1_3 t) fullShare ((dat V c).after 3 t) ∗ owns (c : Thread nD τ) (st1_4 t) fullShare ((dat V c).after 4 t) ∗ owns (c : Thread nD τ) (st1_5 t) fullShare ((dat V c).after 5 t) ∗ owns (c : Thread nD τ) (st1_6 t) fullShare ((dat V c).after 6 t) ∗ owns (c : Thread nD τ) (st1_7 t) fullShare ((dat V c).after 7 t) ∗ owns (c : Thread nD τ) (st1_8 t) fullShare ((dat V c).after 8 t) ∗ owns (c : Thread nD τ) (st1_9 t) fullShare ((dat V c).after 9 t) ∗ owns (c : Thread nD τ) (st1_10 t) fullShare ((dat V c).after 10 t) ∗ owns (c : Thread nD τ) (st1_11 t) fullShare ((dat V c).after 11 t) ∗ owns (c : Thread nD τ) (st1_12 t) fullShare ((dat V c).after 12 t) ∗ owns (c : Thread nD τ) (st1_13 t) fullShare ((dat V c).after 13 t) ∗ owns (c : Thread nD τ) (st1_14 t) fullShare ((dat V c).after 14 t) ∗ owns (c : Thread nD τ) (st1_15 t) fullShare ((dat V c).after 15 t))) := by
  unfold bodyAt1
  simp only [before_0, before_1, before_2, before_3, before_4, before_5, before_6, before_7, before_8, before_9, before_10, before_11, before_12, before_13, before_14]
  rw [show (dat V c).Φ t.succ = held V c (t.val + 1) from rfl, show (dat V c).Φ t.castSucc = held V c t.val from rfl,
    show (dat V c).owesAt () t.succ = (dat V c).owesAt () t.castSucc from rfl,
    after_0, after_1, after_2, after_3, after_4, after_5, after_6, after_7, after_8, after_9, after_10, after_11, after_12, after_13, after_14, after_15]
  unfold held
  iintro ⟨⟨Hs, S0, S1, S2, S3, ⟨%h4, %e4, S4⟩, ⟨%h5, %e5, S5⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have e4 := e4 hc0
  have e5 := e5 hc0
  subst e4 e5
  iapply (body_later c Set.univ (grid1.coords t) (fun h => hc0 ((cond_iff t).mp h)) _ _ _ _ _ _ _ _ _ _ _ _ _ _ _ _ _ _ _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (blk V c 13 t) (blk V c 14 t) (carry V c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, S0, S1, S2, S3, S4, S5⟩
  isplitl [Hs S0 S1 S2 S3 S4 S5]
  · isplitl [Hs]; · iexact Hs
    isplitl [S0]; · iexact S0
    isplitl [S1]; · iexact S1
    isplitl [S2]; · iexact S2
    isplitl [S3]; · iexact S3
    isplitl [S4]
    · iexists _; isplitr
      swap; · iexact S4
      ipureintro; intro _; rw [carry_succ]; rfl
    iexists _; isplitr
    swap; · iexact S5
    ipureintro; intro _; rw [carry_succ]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t` is the body on that point's staging buffers. -/
theorem row (t : Fin cfg1.N) : defs₀ (F := F) .tc cfg1.body (cfg1.bodyArgs t (cfg1.slots t)) = bodyAt1 t := by
  unfold defs₀; rw [Defs.onTc_tc]

/-- The body meets the pipeline's obligation at every point. -/
theorem obligation (c : Dev nD) : BodyObligation (dat (F := F) V c) (defs₀ (F := F)) Variants.none () Set.univ := fun t => by
  rw [bigSep_W1, bigSep_W1, row]
  by_cases h : t.val = 0
  · exact triple_restated (at_first V c t h) rfl .rfl fun _ => .rfl
  · exact triple_restated (at_later V c t h) rfl .rfl fun _ => .rfl

end Lstm

end Cert.KernelIdeal.Run

end
-- ==== Proof.KernelIdeal.Run.lean ====
module

public import proofs.«01_k».proof.Proof.KernelIdeal.Xw
public import proofs.«01_k».proof.Proof.KernelIdeal.Lstm
public import proofs.«01_k».proof.Proof.Gen.KernelIdeal.Regions
public import Idealize.ShloMosaic.Lib.Pipeline.RegionArraysS
public import Idealize.ShloMosaic.Lib.Pipeline.FrameTail
public import Idealize.ShloMosaic.Lib.Pipeline.Kit

/-!
The whole program's run: the host stretches and the two regions in order. It ends with every argument as launched, every
semaphore counter at zero, and the result at what the second region leaves.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the first region leaves, by itself: the valuation after it. -/
def left0 (c : Dev nD) : Valuation τ sig (Elt F) := Pipeline.afterRegion (Xw.dat (V1 m) c) (V1 m c)

/-- The regions' results, the first region's only. -/
def outs0 : Outs (F := F) := fun _ r c => left0 m c (Proc.devRef .tc r)

/-- What the second region leaves, entered from what the first left. -/
def left1 (c : Dev nD) : Valuation τ sig (Elt F) := Pipeline.afterRegion (Lstm.dat (V4 m (outs0 m)) c) (V4 m (outs0 m) c)

/-- The regions' results: the first region's after item 2, the second's after item 5. -/
def outs : Outs (F := F)
  | 5, r, c => left1 m c (Proc.devRef .tc r)
  | _, r, c => left0 m c (Proc.devRef .tc r)

/-- The regions' proof data. -/
def dats : (p : Fin 2) → (c : Dev nD) → Dat τ (Elt F) Unit ℕ (UR sig nD τ) ℕ (cfgs p) c
  | ⟨0, _⟩, c => Xw.dat (V1 m) c
  | ⟨1, _⟩, c => Lstm.dat (V4 m (outs0 m)) c
  | ⟨_ + 2, h⟩, _ => absurd h (Nat.not_lt.2 (Nat.le_add_left _ _))

/-- The levels: the one tally of every core, at level zero. -/
abbrev L : GSem nD τ sig → Finset Unit := fun g => if g.1.2 = .tc then {()} else ∅
/-- Every level is zero. -/
abbrev lv : GSem nD τ sig → Unit → ℕ := fun _ _ => 0

/-- No core owes anything. -/
abbrev owedNone : Dev nD → CellTallies nD τ sig Unit := fun _ => 0

/-- Beside the buffers, a core owes nothing. -/
def rest (c : Dev nD) : sProp 𝕄 := iprop((∃ W, owes (c : Thread nD τ) (owedNone c) W) ∗ BI.emp ∗ BI.emp)

/-- A buffer that is neither of the first region's results is no output array of it. -/
theorem off0 (b : Ref sig .tc) (h0 : ¬ b = main_v11_0) (h1 : ¬ b = main_v11_1) (w : Fin cfg0.W) (e : Pipeline.arrRef cfg0.spec w = b) :
    (cfg0.win w).isOut = false := by
  subst e
  revert w; decide

/-- A buffer that is not the second region's result is no output array of it. -/
theorem off1 (b : Ref sig .tc) (h1 : ¬ b = main_v37) (w : Fin cfg1.W) (e : Pipeline.arrRef cfg1.spec w = b) :
    (cfg1.win w).isOut = false := by
  subst e
  revert w; decide

/-- What the first region leaves is the valuation after item 2: only its two result arrays change. -/
theorem after0 (c : Dev nD) (b : Ref sig .tc) : left0 m c (Proc.devRef .tc b) = V2 m (outs m) c (Proc.devRef .tc b) := by
  by_cases h1 : b = main_v11_1
  · subst h1
    rw [V2, Function.update_self]
    rfl
  by_cases h0 : b = main_v11_0
  · subst h0
    rw [V2, Function.update_of_ne (StableHlo.devRef_ne_of_ne (by decide)), Function.update_self]
    rfl
  · rw [V2_of m (outs m) c b (by simp [h0, h1])]
    exact Pipeline.afterRegion_keeps _ _ launch0.win.arr_inj (Xw.A_eq (V1 m) c) b (off0 b h0 h1)

/-- What the second region leaves is the valuation after item 5: only its result array changes. -/
theorem after1 (c : Dev nD) (b : Ref sig .tc) : left1 m c (Proc.devRef .tc b) = V5 m (outs m) c (Proc.devRef .tc b) := by
  by_cases h1 : b = main_v37
  · subst h1
    rw [V5, Function.update_self]
    rfl
  · rw [V5_of m (outs m) c b (by simp [h1])]
    exact Pipeline.afterRegion_keeps _ _ launch1.win.arr_inj (Lstm.A_eq (V4 m (outs0 m)) c) b (off1 b h1)

/-- The levels fit both regions. -/
theorem cut (p : Fin 2) : Pipeline.LevelCut (pcfgs (F := F)) adm () L lv p owedNone (fun _ => 0) := by
  refine ⟨fun c w s => ?_, fun _ _ _ => Nat.le_refl 0, fun _ _ _ h => absurd h (Nat.lt_irrefl 0)⟩
  exact Finset.mem_singleton.mpr rfl

/-- Nothing beside an assertion can be dropped, or set beside it. -/
theorem drop (P : sProp 𝕄) : iprop(P ∗ BI.emp) ⊢ P := by
  iintro ⟨H, -⟩; iexact H

/-- Nothing may be added beside anything. -/
theorem keep (P : sProp 𝕄) : P ⊢ iprop(P ∗ BI.emp) := by
  iintro H; isplitl [H]
  · iexact H
  iempintro

/-- The first region as a segment. -/
def R0 : RegionSeg (pcfgs (F := F)) adm (dats m) () defs₀ Variants.none L lv 0 :=
  RegionSeg.ofHeldIn (pcfgs (F := F)) adm (dats m) () defs₀ Variants.none L lv 0 owedNone (Pipeline.ucRefs τ sig) (fun _ => BI.emp) (fun _ => BI.emp)
    launch0.toP rfl (fun c => (Xw.obligation (V1 m) c).loose) (fun _ _ => rfl) (fun _ => rfl) (fun c => (Xw.dat (V1 m) c).share_full fun _ => rfl)
    (fun c => by
      show iprop(Pipeline.scopedRest spec0 c ∗ BI.emp) ⊢ Pipeline.scopedRest spec0 c
      exact drop _)
    (fun c => by
      show Pipeline.scopedRest spec0 c ⊢ iprop(Pipeline.scopedRest spec0 c ∗ BI.emp)
      exact keep _)
    (fun _ => 0) (cut 0) (fun _ => BI.emp) (V1 m) (fun c w => Xw.A_eq (V1 m) c w)

/-- The second region as a segment. -/
def R1 : RegionSeg (pcfgs (F := F)) adm (dats m) () defs₀ Variants.none L lv 1 :=
  RegionSeg.ofHeldIn (pcfgs (F := F)) adm (dats m) () defs₀ Variants.none L lv 1 owedNone (Pipeline.ucRefs τ sig) (fun _ => BI.emp) (fun _ => BI.emp)
    launch1.toP rfl (fun c => (Lstm.obligation (V4 m (outs0 m)) c).loose) (fun _ _ => rfl) (fun _ => rfl)
    (fun c => (Lstm.dat (V4 m (outs0 m)) c).share_full fun _ => rfl)
    (fun c => by
      show iprop(Pipeline.scopedRest spec1 c ∗ BI.emp) ⊢ Lstm.held (V4 m (outs0 m)) c 0
      exact (drop _).trans (Lstm.held_in (V4 m (outs0 m)) c))
    (fun c => by
      show Lstm.held (V4 m (outs0 m)) c _ ⊢ iprop(Pipeline.scopedRest spec1 c ∗ BI.emp)
      exact (Lstm.held_out (V4 m (outs0 m)) c _).trans (keep _))
    (fun _ => 0) (cut 1) (fun _ => BI.emp) (V4 m (outs0 m)) (fun c w => Lstm.A_eq (V4 m (outs0 m)) c w)

/-- Held at what the first region leaves is held at the valuation after item 2. -/
theorem held0 (c : Dev nD) : (StableHlo.held (c : Thread nD τ) (Pipeline.ucRefs τ sig) (left0 m c) : sProp 𝕄)
    = StableHlo.held (c : Thread nD τ) (Pipeline.ucRefs τ sig) (V2 m (outs m) c) :=
  StableHlo.held_congr (c : Thread nD τ) fun b hb => by
    obtain ⟨r, -, rfl⟩ := Finset.mem_map.mp (Finset.mem_filter.mp hb).1
    exact after0 m c r

/-- Held at what the second region leaves is held at the valuation after item 5. -/
theorem held1 (c : Dev nD) : (StableHlo.held (c : Thread nD τ) (Pipeline.ucRefs τ sig) (left1 m c) : sProp 𝕄)
    = StableHlo.held (c : Thread nD τ) (Pipeline.ucRefs τ sig) (V5 m (outs m) c) :=
  StableHlo.held_congr (c : Thread nD τ) fun b hb => by
    obtain ⟨r, -, rfl⟩ := Finset.mem_map.mp (Finset.mem_filter.mp hb).1
    exact after1 m c r

/-- The first region finds its entry. -/
theorem pre0 (c : Dev nD) : iprop(StableHlo.held (c : Thread nD τ) (Pipeline.ucRefs τ sig) (V1 m c) ∗ rest c) ⊢ (R0 m).pre c := by
  unfold rest
  exact RegionSeg.ofHeldIn_pre (Ix := Unit) (Name := ℕ) (U := UR sig nD τ) (Lvl := ℕ) (pcs := pcfgs (F := F)) (a := adm) (pdats := dats m) (ι := ()) (defs₀ := defs₀) (𝒱₀ := Variants.none) (L := L) (lv := lv) (p := 0) (D := owedNone)
    (X := fun _ => BI.emp) (Y := fun _ => BI.emp) (R := fun _ => BI.emp) (W := V1 m) (Pipeline.arrRefs_sub_ucRefs _ launch0.win.arr_unscoped) c

/-- The first region leaves its exit. -/
theorem post0 (c : Dev nD) : (R0 m).post c ⊢ iprop(StableHlo.held (c : Thread nD τ) (Pipeline.ucRefs τ sig) (V2 m (outs m) c) ∗ rest c) := by
  rw [← held0]
  exact RegionSeg.ofHeldIn_post (Ix := Unit) (Name := ℕ) (U := UR sig nD τ) (Lvl := ℕ) (pcs := pcfgs (F := F)) (a := adm) (pdats := dats m) (ι := ()) (defs₀ := defs₀) (𝒱₀ := Variants.none) (L := L) (lv := lv) (p := 0) (D := owedNone)
    (X := fun _ => BI.emp) (Y := fun _ => BI.emp) (R := fun _ => BI.emp) (W := V1 m) (Pipeline.arrRefs_sub_ucRefs _ launch0.win.arr_unscoped) c

/-- The second region finds its entry. -/
theorem pre1 (c : Dev nD) : iprop(StableHlo.held (c : Thread nD τ) (Pipeline.ucRefs τ sig) (V4 m (outs m) c) ∗ rest c) ⊢ (R1 m).pre c := by
  show iprop(StableHlo.held (c : Thread nD τ) (Pipeline.ucRefs τ sig) (V4 m (outs0 m) c) ∗ rest c) ⊢ (R1 m).pre c
  unfold rest
  exact RegionSeg.ofHeldIn_pre (Ix := Unit) (Name := ℕ) (U := UR sig nD τ) (Lvl := ℕ) (pcs := pcfgs (F := F)) (a := adm) (pdats := dats m) (ι := ()) (defs₀ := defs₀) (𝒱₀ := Variants.none) (L := L) (lv := lv) (p := 1) (D := owedNone)
    (X := fun _ => BI.emp) (Y := fun _ => BI.emp) (R := fun _ => BI.emp) (W := V4 m (outs0 m)) (Pipeline.arrRefs_sub_ucRefs _ launch1.win.arr_unscoped) c

/-- The second region leaves its exit. -/
theorem post1 (c : Dev nD) : (R1 m).post c ⊢ iprop(StableHlo.held (c : Thread nD τ) (Pipeline.ucRefs τ sig) (V5 m (outs m) c) ∗ rest c) := by
  rw [← held1]
  exact RegionSeg.ofHeldIn_post (Ix := Unit) (Name := ℕ) (U := UR sig nD τ) (Lvl := ℕ) (pcs := pcfgs (F := F)) (a := adm) (pdats := dats m) (ι := ()) (defs₀ := defs₀) (𝒱₀ := Variants.none) (L := L) (lv := lv) (p := 1) (D := owedNone)
    (X := fun _ => BI.emp) (Y := fun _ => BI.emp) (R := fun _ => BI.emp) (W := V4 m (outs0 m)) (Pipeline.arrRefs_sub_ucRefs _ launch1.win.arr_unscoped) c

/-- What a core has beside the buffers says that it owes nothing. -/
theorem rest_end (c : Dev nD) : (rest c : sProp 𝕄) ⊢ iprop(∃ W, owes (c : Thread nD τ) (0 : CellTallies nD τ sig Unit) W) := by
  unfold rest
  iintro ⟨H, -⟩
  iexact H

/-- The launch's share of the regions' ghost state. -/
theorem launched : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj)))
      ∗ bigSep Finset.univ (fun _ : Dev nD => (BI.emp : sProp 𝕄))) := by
  iintro Hu
  imodintro
  isplitl [Hu]
  · iapply (show (ownU _ : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => BI.emp) from by rw [BI.bigSep_emp_const])
  iempintro

/-- At launch every core owes nothing. -/
theorem rest_init (ρ : Dev nD → PrngReg) :
    iprop((bigSep Finset.univ fun c : Dev nD => iprop(unscopedSems0 c ∗ owes (c : Thread nD τ) (owedNone c) ∅ ∗ Pipeline.launchCred owedNone c ∗ prngReg c (ρ c) ∗ BI.emp)) ∗ levAts L lv)
      ⊢ (|={Set.univ}=> bigSep Finset.univ rest : sProp 𝕄) := by
  refine Pipeline.initEach L lv fun c => ?_
  unfold rest
  iintro ⟨⟨-, HO, -⟩, -⟩
  imodintro
  isplitl [HO]
  · iexists _
    iexact HO
  isplitl [] <;> iempintro

set_option backward.isDefEq.respectTransparency.types false in
/-- The run from `m`: it ends with the result at what the second region leaves, every argument as launched and every
    semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_v37) = left1 m c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine Pipeline.θ_run_regions_kit_dev_sems (pcfgs (F := F)) adm (dats m) () cellOf_inj emb₁ defs₀ Variants.none L lv m ρ main
    (segs m (outs m) Variants.none L lv (fun _ => rest) () (dats m) (R0 m) (R1 m))
    (fun c Q => by
      rewrite [main_chain c, Seg.run_eq_chain,
        show (segs m (outs m) Variants.none L lv (fun _ => rest) () (dats m) (R0 m) (R1 m) c).map Seg.prog = [
          StableHlo.seq hostOps0,
          Prog.lift (.customCall (Pipeline.entry 0) ()),
          StableHlo.seq hostOps1,
          StableHlo.seq hostOps1_1,
          Prog.lift (.customCall (Pipeline.entry 1) ()) ] from rfl]
      dsimp (config := { failIfUnchanged := false }) only
      exact .rfl)
    (fun c => by simp only [segs, Seg.pipes_host, Seg.pipes_region, Seg.pipes_nil]; decide) owedNone (fun g h => if_neg h)
    (fun _ => BI.emp) _ launched
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨.rfl, pre0 m c, post0 m c, .rfl, pre1 m c, (post1 m c).trans (sep_mono .rfl (rest_end c))⟩)
    (hinit := ?_)
    (QY := fun c s => s.mem ((c.tc : Thread nD τ).loc main_v37) = left1 m c (Proc.devRef .tc main_v37) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (owedNone c) ∅ ∗ Pipeline.launchCred owedNone c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owedNone c) ∅ ∗ Pipeline.launchCred owedNone c ∗ prngReg c (ρ c) ∗ BI.emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest_init ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_v37) (Finset.mem_filter.mpr ⟨StableHlo.devRef_mem_tcRefs main_v37, by decide⟩)).trans (after1 m c main_v37).symm,
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        (h (Proc.devRef .tc main_arg6) (Finset.mem_filter.mpr ⟨StableHlo.devRef_mem_tcRefs main_arg6, by decide⟩)).trans (V5_main_arg6 m (outs m) c),
        (h (Proc.devRef .tc main_arg7) (Finset.mem_filter.mpr ⟨StableHlo.devRef_mem_tcRefs main_arg7, by decide⟩)).trans (V5_main_arg7 m (outs m) c)⟩
    · iexact HSI

end Cert.KernelIdeal.Run

end
-- ==== Proof.KernelIdeal.Entry.lean ====
module

public import proofs.«01_k».proof.Proof.KernelIdeal.Run

/-! What the kernel's host stretches leave in the buffers the regions read. -/

@[expose] public section

set_option maxRecDepth 16384

noncomputable section

namespace Cert.KernelIdeal.Entry

open Cert.KernelIdeal Cert.KernelIdeal.Gen
open Idealize.ShloMosaic Idealize.ShloMosaic.TcCoe Idealize.ShloMosaic.StableHlo

variable {F : FTy → Type} [FloatOps F]

/-- Contents of every buffer on one device. -/
abbrev Val (F : FTy → Type) := Valuation τ sig (Elt F)

/-- The sources and the targets of the edges. -/
def srcs (a : (⟨S2x320000, .i32⟩ : BufTy).Contents (Elt F)) : (⟨S320000, .i32⟩ : BufTy).Contents (Elt F) :=
  shapeCast S320000 (extractStridedSlice S1x320000 ![0, 0] a slices_S2x320000_S1x320000_0_0) shapeCasts_S1x320000_S320000
/-- The targets of the edges. -/
def dsts (a : (⟨S2x320000, .i32⟩ : BufTy).Contents (Elt F)) : (⟨S320000, .i32⟩ : BufTy).Contents (Elt F) :=
  shapeCast S320000 (extractStridedSlice S1x320000 ![1, 0] a slices_S2x320000_S1x320000_1_0) shapeCasts_S1x320000_S320000

/-- The first stretch leaves the sources. -/
theorem s0_v1 (V : Val F) : after hostOps0 V (Proc.devRef .tc main_v1) = srcs (V (Proc.devRef .tc main_arg1)) := by
  after_results
  rfl
/-- The first stretch leaves the targets. -/
theorem s0_v3 (V : Val F) : after hostOps0 V (Proc.devRef .tc main_v3) = dsts (V (Proc.devRef .tc main_arg1)) := by
  after_results
  rfl
/-- The first stretch leaves the degrees, as a column. -/
theorem s0_v10 (V : Val F) : after hostOps0 V (Proc.devRef .tc main_v10)
    = broadcastInDim S10000x1 ![0] bcast_S10000_S10000x1_0
      (addf (broadcastInDim S10000 ![] bcast_S_S10000 (constant S_ .f32 0x3F800000#32))
        (Host.scatterAdd scatter_S10000_S320000x1_S320000_n_0_0_1 (broadcastInDim S10000 ![] bcast_S_S10000 (constant S_ .f32 0x00000000#32))
          (broadcastInDim S320000x1 ![0] bcast_S320000_S320000x1_0 (dsts (V (Proc.devRef .tc main_arg1))))
          (broadcastInDim S320000 ![] bcast_S_S320000 (constant S_ .f32 0x3F800000#32)))) := by
  after_results
  rfl

/-- Row numbers counted from the end where they are negative, one per row. -/
def wraps (x : (⟨S320000, .i32⟩ : BufTy).Contents (Elt F)) : (⟨S320000x1, .i32⟩ : BufTy).Contents (Elt F) :=
  broadcastInDim S320000x1 ![0] bcast_S320000_S320000x1_0
    (select (cmpi .slt x (broadcastInDim S320000 ![] bcast_S_S320000 (constantI S_ 32 0#32)))
      (addi x (broadcastInDim S320000 ![] bcast_S_S320000 (constantI S_ 32 10000#32))) x)

/-- The rows taken for the edges. -/
theorem s1_v12 (V : Val F) : after hostOps1 V (Proc.devRef .tc main_v12)
    = select (broadcastInDim S320000x64 ![0] bcast_S320000_S320000x64_0
        (Host.reduce IntOp.andi (andi (cmpi .sge (wraps (V (Proc.devRef .tc main_v1))) (broadcastInDim S320000x1 ![] bcast_S_S320000x1 (constantI S_ 32 0#32)))
            (cmpi .sle (wraps (V (Proc.devRef .tc main_v1))) (broadcastInDim S320000x1 ![0, 1] bcast_S1x1_S320000x1_0_1 (broadcastInDim S1x1 ![1] bcast_S1_S1x1_1 (constantI S1 32 9999#32)))))
          (constantI S_ 1 1#1) reducesTo_S320000x1_S320000_d1 h_S_))
      (Host.gather gather_S10000x64_S320000x1_S320000x64_1_0_n_n_0_1_164 (V (Proc.devRef .tc main_v11_0)) (wraps (V (Proc.devRef .tc main_v1))))
      (broadcastInDim S320000x64 ![] bcast_S_S320000x64 (constant S_ .f32 0x7FC00000#32)) := by
  after_results_simp
  simp only [TRef.ofBuf_toBuf]
  have a : ∀ h1 h2 h3 x, (TRef.of main_v1 h1 h2 h3 : TRef sig ⟨S320000, .i32⟩).ofBuf (Val := Elt F) x = x := fun _ _ _ _ => rfl
  have b : ∀ h1 h2 h3 x, (TRef.of main_v11_0 h1 h2 h3 : TRef sig ⟨S10000x64, .f32⟩).ofBuf (Val := Elt F) x = x := fun _ _ _ _ => rfl
  have d : ∀ h1 h2 h3 x, (TRef.of main_v12 h1 h2 h3 : TRef sig ⟨S320000x64, .f32⟩).toBuf (Val := Elt F) x = x := fun _ _ _ _ => rfl
  simp only [a, b, d]
  unfold wraps
  rfl

/-- The scaled rows summed over the edges and the node itself. -/
theorem s2_v16 (V : Val F) : after hostOps1_1 V (Proc.devRef .tc main_v16)
    = addf (V (Proc.devRef .tc main_v11_0))
      (Host.scatterAdd scatter_S10000x64_S320000x1_S320000x64_1_0_0_1 (broadcastInDim S10000x64 ![] bcast_S_S10000x64 (constant S_ .f32 0x00000000#32))
        (broadcastInDim S320000x1 ![0] bcast_S320000_S320000x1_0 (V (Proc.devRef .tc main_v3))) (V (Proc.devRef .tc main_v12))) := by
  after_results

/-- The gates' weights on the input, one matrix per gate. -/
theorem s2_v20 (V : Val F) : after hostOps1_1 V (Proc.devRef .tc main_v20)
    = extractStridedSlice S64x64 ![0, 0] (transpose S64x256 [1, 0] (V (Proc.devRef .tc main_arg4)) transposes_S256x64_S64x256_1_0) slices_S64x256_S64x64_0_0 := by
  after_results
/-- The second gate's weights on the input. -/
theorem s2_v21 (V : Val F) : after hostOps1_1 V (Proc.devRef .tc main_v21)
    = extractStridedSlice S64x64 ![0, 64] (transpose S64x256 [1, 0] (V (Proc.devRef .tc main_arg4)) transposes_S256x64_S64x256_1_0) slices_S64x256_S64x64_0_64 := by
  after_results
/-- The third gate's weights on the input. -/
theorem s2_v22 (V : Val F) : after hostOps1_1 V (Proc.devRef .tc main_v22)
    = extractStridedSlice S64x64 ![0, 128] (transpose S64x256 [1, 0] (V (Proc.devRef .tc main_arg4)) transposes_S256x64_S64x256_1_0) slices_S64x256_S64x64_0_128 := by
  after_results
/-- The fourth gate's weights on the input. -/
theorem s2_v23 (V : Val F) : after hostOps1_1 V (Proc.devRef .tc main_v23)
    = extractStridedSlice S64x64 ![0, 192] (transpose S64x256 [1, 0] (V (Proc.devRef .tc main_arg4)) transposes_S256x64_S64x256_1_0) slices_S64x256_S64x64_0_192 := by
  after_results

/-- The gates' weights on the hidden row, one matrix per gate. -/
theorem s2_v24 (V : Val F) : after hostOps1_1 V (Proc.devRef .tc main_v24)
    = extractStridedSlice S64x64 ![0, 0] (transpose S64x256 [1, 0] (V (Proc.devRef .tc main_arg5)) transposes_S256x64_S64x256_1_0) slices_S64x256_S64x64_0_0 := by
  after_results
/-- The second gate's weights on the hidden row. -/
theorem s2_v25 (V : Val F) : after hostOps1_1 V (Proc.devRef .tc main_v25)
    = extractStridedSlice S64x64 ![0, 64] (transpose S64x256 [1, 0] (V (Proc.devRef .tc main_arg5)) transposes_S256x64_S64x256_1_0) slices_S64x256_S64x64_0_64 := by
  after_results
/-- The third gate's weights on the hidden row. -/
theorem s2_v26 (V : Val F) : after hostOps1_1 V (Proc.devRef .tc main_v26)
    = extractStridedSlice S64x64 ![0, 128] (transpose S64x256 [1, 0] (V (Proc.devRef .tc main_arg5)) transposes_S256x64_S64x256_1_0) slices_S64x256_S64x64_0_128 := by
  after_results
/-- The fourth gate's weights on the hidden row. -/
theorem s2_v27 (V : Val F) : after hostOps1_1 V (Proc.devRef .tc main_v27)
    = extractStridedSlice S64x64 ![0, 192] (transpose S64x256 [1, 0] (V (Proc.devRef .tc main_arg5)) transposes_S256x64_S64x256_1_0) slices_S64x256_S64x64_0_192 := by
  after_results

/-- The gates' biases, one row per gate. -/
theorem s2_v29 (V : Val F) : after hostOps1_1 V (Proc.devRef .tc main_v29)
    = broadcastInDim S1x64 ![1] bcast_S64_S1x64_1 (extractStridedSlice S64 ![0] (addf (V (Proc.devRef .tc main_arg6)) (V (Proc.devRef .tc main_arg7))) slices_S256_S64_0) := by
  after_results
/-- The second gate's bias, as a row. -/
theorem s2_v31 (V : Val F) : after hostOps1_1 V (Proc.devRef .tc main_v31)
    = broadcastInDim S1x64 ![1] bcast_S64_S1x64_1 (extractStridedSlice S64 ![64] (addf (V (Proc.devRef .tc main_arg6)) (V (Proc.devRef .tc main_arg7))) slices_S256_S64_64) := by
  after_results
/-- The third gate's bias, as a row. -/
theorem s2_v33 (V : Val F) : after hostOps1_1 V (Proc.devRef .tc main_v33)
    = broadcastInDim S1x64 ![1] bcast_S64_S1x64_1 (extractStridedSlice S64 ![128] (addf (V (Proc.devRef .tc main_arg6)) (V (Proc.devRef .tc main_arg7))) slices_S256_S64_128) := by
  after_results
/-- The fourth gate's bias, as a row. -/
theorem s2_v35 (V : Val F) : after hostOps1_1 V (Proc.devRef .tc main_v35)
    = broadcastInDim S1x64 ![1] bcast_S64_S1x64_1 (extractStridedSlice S64 ![192] (addf (V (Proc.devRef .tc main_arg6)) (V (Proc.devRef .tc main_arg7))) slices_S256_S64_192) := by
  after_results
/-- The convolution's bias, as a row. -/
theorem s2_v36 (V : Val F) : after hostOps1_1 V (Proc.devRef .tc main_v36)
    = broadcastInDim S1x64 ![1] bcast_S64_S1x64_1 (V (Proc.devRef .tc main_arg3)) := by
  after_results

end Cert.KernelIdeal.Entry

end
-- ==== Proof.Ops.lean ====
module

public import Idealize.ShloMosaic.PureOps
public import Idealize.ShloMosaic.Lib.ValueIdxCore
public import Idealize.ShloMosaic.Lib.Routing.OpsPair
public import Idealize.ShloMosaic.Lib.Pipeline.Value

/-! Gathers and scatters of the rows of a table by one index word per row, the
concatenation of two vectors, and a reduction over an axis of extent one, each read at one
element. Nothing here names a program. -/

@[expose] public section

noncomputable section

namespace Cert.Ops

open Idealize.ShloMosaic Idealize.ShloMosaic.ValueIdx

variable {α : Type} {N E C : ℕ}

/-- The row an index word names: the word read signed and moved into `0 … N - 1`. -/
def row (hN : 0 < N) (b : BitVec 32) : Fin N := ⟨min b.toInt.toNat (N - 1), by omega⟩

/-- A word that is a row number names that row. -/
theorem row_of_toInt (hN : 0 < N) (b : BitVec 32) (n : Fin N) (h : b.toInt = n.val) : row hN b = n := by
  have := n.isLt
  refine Fin.ext ?_
  show min b.toInt.toNat (N - 1) = n.val
  rw [h]; omega

/-- Where update `e` of a scatter of scalars into a vector lands: at the element its index word,
read signed, names, and nowhere when there is none. -/
theorem lands1 (d : ScatterDims ⟨1, ![N]⟩ ⟨2, ![E, 1]⟩ ⟨1, ![E]⟩) (hiw : d.insertedWindowDims = [0])
    (hsd : d.scatterDimsToOperandDims = [0]) (hiv : d.indexVectorDim = 1) (idx : IVec ⟨2, ![E, 1]⟩ 32) (e : Fin E) (n : Fin N) :
    d.resultIdx? (ix1 e) idx = some (ix1 n) ↔ (idx (ix2 e (0 : Fin 1))).toInt = (n.val : Int) := by
  have hm : (0 : Fin 1) ∈ d.scatterDimsToOperandDims := by rw [hsd]; exact List.mem_singleton.2 rfl
  have hw : d.window (ix1 e) 0 = 0 := by
    unfold ScatterDims.window
    exact dif_neg fun h => (of_decide_eq_true (List.mem_filter.1 h).2) (by rw [hiw]; exact List.mem_singleton.2 rfl)
  have hsi : d.siIdx (ix1 e) ⟨d.scatterDimsToOperandDims.idxOf 0, List.idxOf_lt_length_iff.2 hm⟩ = ix2 e (0 : Fin 1) := by
    funext b
    apply Fin.ext
    match b with
    | ⟨0, _⟩ =>
      unfold ScatterDims.siIdx
      rw [dif_neg (by rw [hiv]; exact Nat.zero_ne_one)]
      unfold ScatterDims.siCoord
      have q : ∀ X : Fin 1, (ix1 e X).val = e.val := fun X => by
        obtain rfl : X = 0 := Subsingleton.elim _ _
        rfl
      exact q _
    | ⟨1, _⟩ => exact Nat.lt_one_iff.1 (Fin.isLt (n := 1) _)
  have hs : d.start (ix1 e) idx 0 = (idx (ix2 e (0 : Fin 1))).toInt := by
    unfold ScatterDims.start
    rw [dif_pos hm, hsi]
  rw [Routing.resultIdx?_ix1, hs, hw]
  simp

/-- Where element `(e, j)` of a scatter of rows into a table lands: in column `j` of the row its index
word, read signed, names, and nowhere when there is none. -/
theorem lands2 (d : ScatterDims ⟨2, ![N, C]⟩ ⟨2, ![E, 1]⟩ ⟨2, ![E, C]⟩) (huw : d.updateWindowDims = [1])
    (hiw : d.insertedWindowDims = [0])
    (hsd : d.scatterDimsToOperandDims = [0]) (hiv : d.indexVectorDim = 1) (idx : IVec ⟨2, ![E, 1]⟩ 32) (e : Fin E) (j : Fin C)
    (n : Fin N) (j' : Fin C) :
    d.resultIdx? (ix2 e j) idx = some (ix2 n j') ↔ (idx (ix2 e (0 : Fin 1))).toInt = (n.val : Int) ∧ j = j' := by
  have hm : (0 : Fin 2) ∈ d.scatterDimsToOperandDims := by rw [hsd]; exact List.mem_singleton.2 rfl
  have hk : d.sKept = [1] := by
    show (⟨2, ![N, C]⟩ : Shape).kept d.insertedWindowDims = _
    rw [hiw]; rfl
  have hw0 : d.window (ix2 e j) 0 = 0 := by
    unfold ScatterDims.window
    exact dif_neg fun h => (of_decide_eq_true (List.mem_filter.1 h).2) (by rw [hiw]; exact List.mem_singleton.2 rfl)
  have hw1 : d.window (ix2 e j) 1 = j.val := by
    unfold ScatterDims.window
    rw [dif_pos (by rw [hk]; exact List.mem_singleton.2 rfl)]
    have q : ∀ X ∈ d.updateWindowDims, (ix2 e j X).val = j.val := fun X hX => by
      rw [huw] at hX
      obtain rfl := List.mem_singleton.1 hX
      rfl
    exact q _ (List.getElem_mem _)
  have hs1 : d.start (ix2 e j) idx 1 = 0 := by
    unfold ScatterDims.start
    exact dif_neg fun h => by rw [hsd] at h; exact absurd (List.mem_singleton.1 h) (by decide : (1 : Fin 2) ≠ 0)
  have hsi : d.siIdx (ix2 e j) ⟨d.scatterDimsToOperandDims.idxOf 0, List.idxOf_lt_length_iff.2 hm⟩ = ix2 e (0 : Fin 1) := by
    funext b
    apply Fin.ext
    match b with
    | ⟨0, _⟩ =>
      unfold ScatterDims.siIdx
      rw [dif_neg (by rw [hiv]; exact Nat.zero_ne_one)]
      unfold ScatterDims.siCoord
      have q : ∀ X ∈ d.uScatter, (ix2 e j X).val = e.val := fun X hX => by
        replace hX : X ∉ d.updateWindowDims := of_decide_eq_true (List.mem_filter.1 hX).2
        rw [huw] at hX
        match X with
        | ⟨0, _⟩ => rfl
        | ⟨1, _⟩ => exact absurd (List.mem_singleton.2 rfl) hX
      exact q _ (List.getElem_mem _)
    | ⟨1, _⟩ => exact Nat.lt_one_iff.1 (Fin.isLt (n := 1) _)
  have hs0 : d.start (ix2 e j) idx 0 = (idx (ix2 e (0 : Fin 1))).toInt := by
    unfold ScatterDims.start
    rw [dif_pos hm, hsi]
  rw [Routing.resultIdx?_ix2, hs0, hw0, hs1, hw1, Fin.ext_iff]
  simp

/-- Element `e` of a gather from a vector is the element its index word names. -/
theorem gather1 (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1) (hss : d.sliceSizes = ![1])
    (x : (⟨1, ![N]⟩ : Shape).Idx → α) (idx : IVec ⟨2, ![E, 1]⟩ 32) (e : Fin E) :
    Host.gather d x idx (ix1 e) = x (ix1 (row hN (idx (ix2 e (0 : Fin 1))))) := by
  have hm : (0 : Fin 1) ∈ d.startIndexMap := by rw [hsim]; exact List.mem_singleton.2 rfl
  unfold Host.gather
  refine congrArg x (funext fun a => Fin.ext ?_)
  obtain rfl : a = 0 := Subsingleton.elim _ _
  show d.start (ix1 e) idx 0 + d.batchCoord (ix1 e) 0 + d.offCoord (ix1 e) 0 = _
  rw [GatherDims.batchCoord_eq_zero _ _ _ (by rw [hob]; exact List.not_mem_nil),
    GatherDims.offCoord_eq_zero _ _ _ (fun h => ((GatherDims.mem_sKept _ _).mp h).1 (by rw [hcoll]; exact List.mem_singleton.mpr rfl))]
  have hsi : d.siIdx (ix1 e) ⟨d.startIndexMap.idxOf 0, List.idxOf_lt_length_iff.2 hm⟩ = ix2 e (0 : Fin 1) := by
    funext b
    apply Fin.ext
    match b with
    | ⟨0, _⟩ =>
      unfold GatherDims.siIdx
      rw [dif_neg (by rw [hivd]; exact Nat.zero_ne_one)]
      unfold GatherDims.siCoord
      have q : ∀ X : Fin 1, (ix1 e X).val = e.val := fun X => by
        obtain rfl : X = 0 := Subsingleton.elim _ _
        rfl
      exact q _
    | ⟨1, _⟩ => exact Nat.lt_one_iff.1 (Fin.isLt (n := 1) _)
  unfold GatherDims.start
  rw [dif_pos hm, hsi, hss]
  rfl

/-- Element `(e, j)` of a gather of rows from a table is column `j` of the row its index word names. -/
theorem gather2 (hN : 0 < N) (d : GatherDims ⟨2, ![N, C]⟩ ⟨2, ![E, 1]⟩ ⟨2, ![E, C]⟩) (hoff : d.offsetDims = [1])
    (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ 32) (e : Fin E) (j : Fin C) :
    Host.gather d x idx (ix2 e j) = x (ix2 (row hN (idx (ix2 e (0 : Fin 1)))) j) := by
  have hm : (0 : Fin 2) ∈ d.startIndexMap := by rw [hsim]; exact List.mem_singleton.2 rfl
  unfold Host.gather
  refine congrArg x (funext fun a => Fin.ext ?_)
  have hbN : ∀ a', a' ∉ d.operandBatchingDims := fun a' => by rw [hob]; exact List.not_mem_nil
  match a with
  | ⟨0, _⟩ =>
    show d.start (ix2 e j) idx 0 + d.batchCoord (ix2 e j) 0 + d.offCoord (ix2 e j) 0 = _
    rw [GatherDims.batchCoord_eq_zero _ _ _ (hbN _),
      GatherDims.offCoord_eq_zero _ _ _ (fun h => ((GatherDims.mem_sKept _ _).mp h).1 (by rw [hcoll]; exact List.mem_singleton.mpr rfl))]
    have hsi : d.siIdx (ix2 e j) ⟨d.startIndexMap.idxOf 0, List.idxOf_lt_length_iff.2 hm⟩ = ix2 e (0 : Fin 1) := by
      funext b
      apply Fin.ext
      match b with
      | ⟨0, _⟩ =>
        unfold GatherDims.siIdx
        rw [dif_neg (by rw [hivd]; exact Nat.zero_ne_one)]
        unfold GatherDims.siCoord
        have q : ∀ X ∈ d.batchDims, (ix2 e j X).val = e.val := fun X hX => by
          replace hX : X ∉ d.offsetDims := of_decide_eq_true (List.mem_filter.1 hX).2
          rw [hoff] at hX
          match X with
          | ⟨0, _⟩ => rfl
          | ⟨1, _⟩ => exact absurd (List.mem_singleton.2 rfl) hX
        exact q _ (List.getElem_mem _)
      | ⟨1, _⟩ => exact Nat.lt_one_iff.1 (Fin.isLt (n := 1) _)
    unfold GatherDims.start
    rw [dif_pos hm, hsi, hss]
    rfl
  | ⟨1, _⟩ =>
    show d.start (ix2 e j) idx 1 + d.batchCoord (ix2 e j) 1 + d.offCoord (ix2 e j) 1 = _
    rw [GatherDims.batchCoord_eq_zero _ _ _ (hbN _)]
    have h0 : d.start (ix2 e j) idx 1 = 0 := by
      unfold GatherDims.start
      exact dif_neg fun h => by rw [hsim] at h; exact absurd (List.mem_singleton.1 h) (by decide : (1 : Fin 2) ≠ 0)
    have hk : (1 : Fin 2) ∈ d.sKept := (GatherDims.mem_sKept _ _).2
      ⟨by rw [hcoll]; exact fun h => absurd (List.mem_singleton.1 h) (by decide : (1 : Fin 2) ≠ 0), hbN _⟩
    have h1 : d.offCoord (ix2 e j) 1 = j.val := by
      unfold GatherDims.offCoord
      rw [dif_pos hk]
      have q : ∀ X ∈ d.offsetDims, (ix2 e j X).val = j.val := fun X hX => by
        rw [hoff] at hX
        obtain rfl := List.mem_singleton.1 hX
        rfl
      exact q _ (List.getElem_mem _)
    rw [h0, h1]
    show 0 + 0 + j.val = j.val
    omega

/-- A reduction over an axis of extent one takes the one element there. -/
theorem reduce_unit (f : α → α → α) (x : (⟨2, ![E, 1]⟩ : Shape).Idx → α) (v : (⟨0, ![]⟩ : Shape).Idx → α)
    (h : (⟨2, ![E, 1]⟩ : Shape).ReducesTo [1] ⟨1, ![E]⟩) (hu : 0 < (⟨0, ![]⟩ : Shape).numel) (e : Fin E) :
    Host.reduce f x v h hu (ix1 e) = f (v ix0) (x (ix2 e (0 : Fin 1))) := by
  have hd : ∀ n : Fin (⟨2, ![E, 1]⟩ : Shape).numel,
      h.drop ((⟨2, ![E, 1]⟩ : Shape).rowMajor.symm n) = ix1 e ↔ n = (⟨2, ![E, 1]⟩ : Shape).rowMajor (ix2 e (0 : Fin 1)) := fun n => by
    rw [← Equiv.symm_apply_eq]
    generalize (⟨2, ![E, 1]⟩ : Shape).rowMajor.symm n = i
    have h0 : h.drop i = ix1 (i 0) := by
      funext a
      obtain rfl : a = 0 := Subsingleton.elim _ _
      rfl
    rw [h0]
    constructor
    · intro q
      have q0 : i 0 = e := congrFun q 0
      rw [eq_ix2 i, q0]
      exact congrArg (ix2 e) (Subsingleton.elim (α := Fin 1) _ _)
    · rintro rfl; rfl
  have hv : v (Shape.Idx.first hu) = v ix0 := congrArg v (eq_ix0 _)
  unfold Host.reduce
  rw [hv]
  have hf : (fun n => decide (h.drop ((⟨2, ![E, 1]⟩ : Shape).rowMajor.symm n) = ix1 e))
      = fun n => n == (⟨2, ![E, 1]⟩ : Shape).rowMajor (ix2 e (0 : Fin 1)) := by
    funext n
    rw [beq_eq_decide, decide_eq_decide]
    exact hd n
  rw [hf, List.filter_beq, List.count_eq_one_of_mem (List.nodup_finRange _) (List.mem_finRange _)]
  show f (v ix0) (x (_)) = _
  rw [Equiv.symm_apply_apply]

/-- The concatenation of two vectors, read in the first. -/
theorem concat_left {A B D : ℕ} (x₁ : (⟨1, ![A]⟩ : Shape).Idx → α) (x₂ : (⟨1, ![B]⟩ : Shape).Idx → α)
    (h : Shape.Concatenates [⟨1, ![A]⟩, ⟨1, ![B]⟩] ⟨1, ![D]⟩ 0) (i : Fin A) (k : Fin D) (hk : k.val = i.val) :
    concatenate ⟨1, ![D]⟩ 0 [⟨⟨1, ![A]⟩, x₁⟩, ⟨⟨1, ![B]⟩, x₂⟩] h (ix1 k) = x₁ (ix1 i) :=
  concatenate_pair_apply_left (t := ⟨1, ![D]⟩) 0 x₁ x₂ h (ix1 k) rfl (ix1 i) fun b => by
    obtain rfl : b = 0 := Subsingleton.elim _ _
    exact hk.symm

/-- The concatenation of two vectors, read in the second. -/
theorem concat_right {A B D : ℕ} (x₁ : (⟨1, ![A]⟩ : Shape).Idx → α) (x₂ : (⟨1, ![B]⟩ : Shape).Idx → α)
    (h : Shape.Concatenates [⟨1, ![A]⟩, ⟨1, ![B]⟩] ⟨1, ![D]⟩ 0) (i : Fin B) (k : Fin D) (hk : k.val = A + i.val) :
    concatenate ⟨1, ![D]⟩ 0 [⟨⟨1, ![A]⟩, x₁⟩, ⟨⟨1, ![B]⟩, x₂⟩] h (ix1 k) = x₂ (ix1 i) :=
  concatenate_pair_apply_right (t := ⟨1, ![D]⟩) 0 x₁ x₂ h (ix1 k) rfl rfl (ix1 i)
    (fun b hb => absurd (Subsingleton.elim (α := Fin 1) _ _) hb)
    (by show i.val + A = k.val; omega)

end Cert.Ops

end
-- ==== Proof.Maths.lean ====
module

public import Idealize.ShloMosaic.PureOps.Ideal
public import proofs.«01_k».proof.Proof.Ops

/-! The arithmetic of the two programs over the extended reals. First the graph convolution: a table of
rows is averaged over the edges that enter each node, with the weight `d (source) * d (target)` where `d` is one over the
square root of the number of edges that enter a node, itself counted. The kernel takes the factor of
the target out of the sum; the reference adds the edge from each node to itself to the list of edges.
Both are the same function. Then one step of the recurrent cell. -/

@[expose] public section

noncomputable section

namespace Cert.Maths

open Idealize.ShloMosaic Idealize.ShloMosaic.ValueIdx Cert.Ops
open scoped BigOperators

/-! ### Constants -/

/-- The bit pattern of one. -/
theorem bits_one : Ideal.ofBits .f32 0x3F800000#32 = 1 := by
  simp [Ideal.ofBits, Ideal.ieee, -EReal.coe_mul]; norm_num
/-- The bit pattern of zero. -/
theorem bits_zero : Ideal.ofBits .f32 0x00000000#32 = 0 := by simp [Ideal.ofBits, Ideal.ieee]
/-- The bit pattern of not-a-number reads as the least element. -/
theorem bits_nan : Ideal.ofBits .f32 0x7FC00000#32 = ⊥ := by simp [Ideal.ofBits, Ideal.ieee]
/-- The small constant that bounds the degrees from below is at most one. -/
theorem bits_tiny : Ideal.ofBits .f32 0x2B8CBCCC#32 ≤ 1 := by
  simp only [Ideal.ofBits, Ideal.ieee]
  simp [-EReal.coe_mul]
  rw [← EReal.coe_one, EReal.coe_le_coe_iff]
  norm_num

/-- The scalar constants read. -/
theorem const_one : constant (F := Ideal) ⟨0, ![]⟩ .f32 0x3F800000#32 ix0 = (1 : EReal) := bits_one
/-- The scalar constant zero. -/
theorem const_zero : constant (F := Ideal) ⟨0, ![]⟩ .f32 0x00000000#32 ix0 = (0 : EReal) := bits_zero
/-- The scalar constant not-a-number. -/
theorem const_nan : constant (F := Ideal) ⟨0, ![]⟩ .f32 0x7FC00000#32 ix0 = (⊥ : EReal) := bits_nan

/-! ### Products and sums -/

/-- A factor that is a positive real goes into a sum of any extended reals. -/
theorem mul_sum_of_pos {ι : Type} (s : Finset ι) (f : ι → EReal) (r : ℝ) (hr : 0 < r) :
    (r : EReal) * ∑ e ∈ s, f e = ∑ e ∈ s, (r : EReal) * f e := by
  classical
  induction s using Finset.induction_on with
  | empty => simp
  | insert a s ha ih =>
    rw [Finset.sum_insert ha, Finset.sum_insert ha, ← ih,
      EReal.left_distrib_of_nonneg_of_ne_top (EReal.coe_nonneg.2 hr.le) (EReal.coe_ne_top r)]

/-- A sum over `D = A + B` numbers is the sum over the first `A` and the sum over the last `B`. -/
theorem sum_split {M : Type} [AddCommMonoid M] {A B D : ℕ} (h : A + B = D) (f : Fin D → M) :
    ∑ i, f i = ∑ i : Fin A, f ⟨i.val, by omega⟩ + ∑ i : Fin B, f ⟨A + i.val, by omega⟩ := by
  subst h
  rw [Fin.sum_univ_add]
  rfl

/-! ### The graph convolution -/

/-- A row number counted from the end where it is negative. -/
def wrap (b : BitVec 32) : BitVec 32 := Scalar.select (IntOp.cmpi .slt b 0#32) (IntOp.addi b 10000#32) b

/-- One where the word is a row number, zero where it is not. -/
def ok (b : BitVec 32) : BitVec 1 :=
  IntOp.andi 1#1 (IntOp.andi (IntOp.cmpi .sge b 0#32) (IntOp.cmpi .sle b 9999#32))

/-- There are rows. -/
theorem rows_pos : 0 < 10000 := by decide

/-- The row a word names after the count from the end. -/
def at' (b : BitVec 32) : Fin 10000 := row rows_pos (wrap b)

/-- The row of table `f` a word names, read at column `j`; the least element where it names none. -/
def take (f : Fin 10000 → Fin 64 → EReal) (b : BitVec 32) (j : Fin 64) : EReal :=
  Scalar.select (ok (wrap b)) (f (at' b) j) ⊥

/-- A word that is a row number is left as it is by the count from the end. -/
theorem wrap_of (b : BitVec 32) (n : Fin 10000) (h : b.toInt = n.val) : wrap b = b := by
  have : IntOp.cmpi .slt b 0#32 = 0#1 := by
    simp only [IntOp.cmpi, BitVec.slt]
    have h' : ¬ ((n.val : ℤ) < 0) := by omega
    rw [h]; simp [h']
  unfold wrap
  rw [this]; rfl

/-- A word that is a row number names that row. -/
theorem at'_of (b : BitVec 32) (n : Fin 10000) (h : b.toInt = n.val) : at' b = n := by
  unfold at'
  rw [wrap_of b n h]
  exact row_of_toInt _ _ _ h

/-- A word that is a row number is recognised as one. -/
theorem ok_of (b : BitVec 32) (n : Fin 10000) (h : b.toInt = n.val) : ok (wrap b) = 1#1 := by
  have h9 := n.isLt
  rw [wrap_of b n h]
  have h1 : IntOp.cmpi .sge b 0#32 = 1#1 := by
    simp only [IntOp.cmpi, BitVec.sle]
    rw [h]; simp
  have h2 : IntOp.cmpi .sle b 9999#32 = 1#1 := by
    simp only [IntOp.cmpi, BitVec.sle]
    rw [h, show (9999#32 : BitVec 32).toInt = 9999 from by decide]
    have : (n.val : ℤ) ≤ 9999 := by omega
    simp [this]
  unfold ok
  rw [h1, h2]; rfl

/-- A word that is a row number takes that row. -/
theorem take_of (f : Fin 10000 → Fin 64 → EReal) (b : BitVec 32) (n : Fin 10000) (h : b.toInt = n.val) (j : Fin 64) :
    take f b j = f n j := by
  unfold take
  rw [ok_of b n h, at'_of b n h]; rfl

section Graph
variable {E : ℕ} (src dst : Fin E → BitVec 32)

/-- The edges that enter node `n`. -/
def into (n : Fin 10000) : Finset (Fin E) := Finset.univ.filter fun e => (dst e).toInt = (n.val : ℤ)

/-- The number of edges that enter node `n`, and one for the node itself. -/
def deg (n : Fin 10000) : EReal := 1 + ∑ _e ∈ into dst n, (1 : EReal)

/-- One over the square root of that number. -/
def dinv (n : Fin 10000) : EReal := Ideal.rsqrt (deg dst n)

/-- The degree is a count and one. -/
theorem deg_eq (n : Fin 10000) : deg dst n = (((into dst n).card + 1 : ℝ) : EReal) := by
  unfold deg
  rw [Finset.sum_const, EReal.nsmul_eq_mul, mul_one, add_comm]
  norm_cast

/-- It is a positive real. -/
theorem dinv_pos (n : Fin 10000) : ∃ r : ℝ, 0 < r ∧ dinv dst n = (r : EReal) := by
  have h : (0 : ℝ) < (into dst n).card + 1 := by positivity
  refine ⟨(Real.sqrt ((into dst n).card + 1))⁻¹, by positivity, ?_⟩
  unfold dinv
  rw [deg_eq, Ideal.rsqrt_coe, if_neg (not_lt.2 h.le), if_neg h.ne']

/-- The convolution as the kernel forms it: the rows are scaled by the factor of their own node, added
over the edges that enter and the node itself, and scaled by the factor of the target. -/
def conv (xw : Fin 10000 → Fin 64 → EReal) (b : Fin 64 → EReal) (n : Fin 10000) (j : Fin 64) : EReal :=
  max (dinv dst n * (xw n j * dinv dst n
      + ∑ e ∈ into dst n, take (fun n j => xw n j * dinv dst n) (src e) j) + b j) 0

variable {D : ℕ} (srcs dsts : Fin D → BitVec 32)

/-- The list of edges with one from each node to itself after them. -/
structure Loops : Prop where
  size : E + 10000 = D
  src_edge : ∀ e : Fin E, srcs ⟨e.val, by omega⟩ = src e
  dst_edge : ∀ e : Fin E, dsts ⟨e.val, by omega⟩ = dst e
  src_loop : ∀ n : Fin 10000, srcs ⟨E + n.val, by omega⟩ = BitVec.ofNat 32 n.val
  dst_loop : ∀ n : Fin 10000, dsts ⟨E + n.val, by omega⟩ = BitVec.ofNat 32 n.val

/-- The word of a row number, read back. -/
theorem toInt_loop (n : Fin 10000) : (BitVec.ofNat 32 n.val).toInt = (n.val : ℤ) := by
  have := n.isLt
  exact StableHlo.Predicate.toInt_ofNat_small _ (by omega)

variable {src dst srcs dsts}

/-- A sum over what enters a node in the longer list is the sum over the edges and the node's own term. -/
theorem sum_into (H : Loops src dst srcs dsts) (n : Fin 10000) (f : Fin D → EReal) :
    ∑ e ∈ into dsts n, f e
      = (∑ e ∈ into dst n, f ⟨e.val, by have := H.size; omega⟩) + f ⟨E + n.val, by have := H.size; omega⟩ := by
  unfold into
  rw [Finset.sum_filter, sum_split H.size, Finset.sum_filter]
  refine congrArg₂ (· + ·) ?_ ?_
  · refine Finset.sum_congr rfl fun e _ => ?_
    rw [H.dst_edge]
  · rw [Finset.sum_eq_single n]
    · rw [H.dst_loop, if_pos (toInt_loop n)]
    · intro i _ hi
      rw [H.dst_loop, if_neg]
      rw [toInt_loop]
      exact fun h => hi (Fin.ext (by exact_mod_cast h))
    · exact fun h => absurd (Finset.mem_univ n) h

/-- The reference's degree is the kernel's. -/
theorem ref_deg (H : Loops src dst srcs dsts) (n : Fin 10000) : (∑ _e ∈ into dsts n, (1 : EReal)) = deg dst n := by
  rw [sum_into H]; unfold deg; rw [add_comm]

/-- The reference's guarded factor is the kernel's. -/
theorem ref_dinv (n : Fin 10000) :
    Scalar.select (Ideal.cmp .ogt (deg dst n) 0) (Ideal.rsqrt (max (deg dst n) (Ideal.ofBits .f32 0x2B8CBCCC#32))) 0 = dinv dst n := by
  have h1 : (1 : EReal) ≤ deg dst n := by
    rw [deg_eq, ← EReal.coe_one, EReal.coe_le_coe_iff]
    have : (0 : ℝ) ≤ (into dst n).card := by positivity
    linarith
  have h0 : Ideal.cmp .ogt (deg dst n) 0 = 1#1 := by
    have : (0 : EReal) < deg dst n := lt_of_lt_of_le zero_lt_one h1
    simp [Ideal.cmp, this]
  rw [h0, max_eq_left (bits_tiny.trans h1)]
  rfl

/-- The reference's convolution is the kernel's. -/
theorem ref_conv (H : Loops src dst srcs dsts) (xw : Fin 10000 → Fin 64 → EReal) (b : Fin 64 → EReal) (n : Fin 10000) (j : Fin 64) :
    max ((∑ e ∈ into dsts n, (dinv dst (at' (srcs e)) * dinv dst (at' (dsts e))) * take xw (srcs e) j) + b j) 0
      = conv src dst xw b n j := by
  unfold conv
  obtain ⟨r, hr, hd⟩ := dinv_pos dst n
  rw [sum_into H, H.src_loop, H.dst_loop, at'_of _ n (toInt_loop n), take_of xw _ n (toInt_loop n), hd,
    EReal.left_distrib_of_nonneg_of_ne_top (EReal.coe_nonneg.2 hr.le) (EReal.coe_ne_top r), mul_sum_of_pos _ _ _ hr]
  congr 2
  rw [add_comm]
  congr 1
  · rw [mul_comm (xw n j), mul_assoc]
  · refine Finset.sum_congr rfl fun e he => ?_
    rw [H.src_edge, H.dst_edge, at'_of (dst e) n (Finset.mem_filter.1 he).2, hd]
    obtain ⟨q, hq, hs⟩ := dinv_pos dst (at' (src e))
    unfold take
    simp only [hs]
    unfold Scalar.select
    split
    · rw [mul_comm (q : EReal), mul_assoc, mul_comm (q : EReal)]
    · rw [← EReal.coe_mul, EReal.coe_mul_bot_of_pos (mul_pos hq hr), EReal.coe_mul_bot_of_pos hr]

end Graph

/-- The product of the features and their weights. -/
def prod (A : (⟨2, ![10000, 128]⟩ : Shape).Idx → EReal) (B : (⟨2, ![128, 64]⟩ : Shape).Idx → EReal) (n : Fin 10000) (j : Fin 64) : EReal :=
  ∑ k : Fin 128, A (ix2 n k) * B (ix2 k j)

/-- The entries of a vector. -/
def entries {N : ℕ} (b : (⟨1, ![N]⟩ : Shape).Idx → EReal) (j : Fin N) : EReal := b (ix1 j)

/-- The source of an edge. -/
def src {E : ℕ} (a : (⟨2, ![2, E]⟩ : Shape).Idx → BitVec 32) (e : Fin E) : BitVec 32 := a (ix2 (0 : Fin 2) e)
/-- The target of an edge. -/
def dst {E : ℕ} (a : (⟨2, ![2, E]⟩ : Shape).Idx → BitVec 32) (e : Fin E) : BitVec 32 := a (ix2 (1 : Fin 2) e)

/-! ### The recurrent cell -/

/-- The cell's weights: for the input and for the state one row of 64 weights per gate entry, and one bias
each; the four gates lie one after the other, 64 entries each. -/
structure Cell where
  wi : Fin 256 → Fin 64 → EReal
  wh : Fin 256 → Fin 64 → EReal
  bi : Fin 256 → EReal
  bh : Fin 256 → EReal

/-- Entry `g` of the gates before their functions are taken. -/
def Cell.gate (W : Cell) (x h : Fin 64 → EReal) (g : Fin 256) : EReal :=
  (∑ k, x k * W.wi g k + W.bi g) + ∑ k, h k * W.wh g k + W.bh g

/-- Entry `j` of gate `q`. -/
def gidx (q : Fin 4) (j : Fin 64) : Fin 256 := ⟨64 * q.val + j.val, by omega⟩

/-- The new cell state. -/
def Cell.cnext (W : Cell) (x h c : Fin 64 → EReal) (j : Fin 64) : EReal :=
  Ideal.logistic (W.gate x h (gidx 1 j)) * c j + Ideal.logistic (W.gate x h (gidx 0 j)) * Ideal.tanh (W.gate x h (gidx 2 j))

/-- The new hidden state. -/
def Cell.hnext (W : Cell) (x h c : Fin 64 → EReal) (j : Fin 64) : EReal :=
  Ideal.logistic (W.gate x h (gidx 3 j)) * Ideal.tanh (W.cnext x h c j)

/-- Hidden and cell state after `n` steps on the rows of `X`, from zero. -/
def Cell.state (W : Cell) (X : ℕ → Fin 64 → EReal) : ℕ → (Fin 64 → EReal) × (Fin 64 → EReal)
  | 0 => (fun _ => 0, fun _ => 0)
  | n + 1 => (W.hnext (X n) (W.state X n).1 (W.state X n).2, W.cnext (X n) (W.state X n).1 (W.state X n).2)

/-- The cell of the four arrays of weights and biases. -/
def cellOf (wi wh : (⟨2, ![256, 64]⟩ : Shape).Idx → EReal) (bi bh : (⟨1, ![256]⟩ : Shape).Idx → EReal) : Cell :=
  ⟨fun g k => wi (ix2 g k), fun g k => wh (ix2 g k), entries bi, entries bh⟩

/-- The rows of a table, counted by a natural number. -/
def rowsOf (f : Fin 10000 → Fin 64 → EReal) (n : ℕ) : Fin 64 → EReal := f ⟨min n 9999, by omega⟩

/-- A row's own number gives the row. -/
theorem rowsOf_of (f : Fin 10000 → Fin 64 → EReal) (n : Fin 10000) : rowsOf f n.val = f n := by
  have := n.isLt
  exact congrArg f (Fin.ext (by show min n.val 9999 = n.val; omega))

/-- The kernel adds the two biases first. -/
theorem Cell.gate_kernel (W : Cell) (x h : Fin 64 → EReal) (g : Fin 256) :
    (∑ k, x k * W.wi g k + (W.bi g + W.bh g)) + ∑ k, h k * W.wh g k = W.gate x h g := by
  unfold Cell.gate
  rw [← add_assoc, add_right_comm]

end Cert.Maths

end
-- ==== Proof.Scatter.lean ====
module

public import proofs.«01_k».proof.Proof.Maths

/-! The additive scatters over the extended reals, read at one element: what was there, and the sum of the
updates of the rows whose index word names the element's row. -/

@[expose] public section

noncomputable section

namespace Cert.Maths

open Idealize.ShloMosaic Idealize.ShloMosaic.ValueIdx Cert.Ops
open scoped BigOperators

variable {E : ℕ}

/-- Element `n` of a scatter of scalars that are added. -/
theorem scatter1 (d : ScatterDims ⟨1, ![10000]⟩ ⟨2, ![E, 1]⟩ ⟨1, ![E]⟩) (hiw : d.insertedWindowDims = [0])
    (hsd : d.scatterDimsToOperandDims = [0]) (hiv : d.indexVectorDim = 1)
    (x : (⟨1, ![10000]⟩ : Shape).Idx → EReal) (idx : IVec ⟨2, ![E, 1]⟩ 32) (u : (⟨1, ![E]⟩ : Shape).Idx → EReal) (n : Fin 10000) :
    Host.scatterAdd (F := Ideal) (φ := .f32) d x idx u (ix1 n)
      = x (ix1 n) + ∑ e ∈ into (fun e : Fin E => idx (ix2 e (0 : Fin 1))) n, u (ix1 e) := by
  show Ideal.hostScatterAdd d x idx u _ = _
  unfold Ideal.hostScatterAdd
  refine congrArg (x (ix1 n) + ·) ?_
  refine Finset.sum_nbij' (fun k => k 0) (fun e => ix1 e) ?_ ?_ ?_ ?_ ?_
  · intro k hk
    have := (Finset.mem_filter.1 hk).2
    rw [eq_ix1 k] at this
    exact Finset.mem_filter.2 ⟨Finset.mem_univ _, (lands1 d hiw hsd hiv idx (k 0) n).1 this⟩
  · intro e he
    exact Finset.mem_filter.2 ⟨Finset.mem_univ _, (lands1 d hiw hsd hiv idx e n).2 (Finset.mem_filter.1 he).2⟩
  · intro k _; exact (eq_ix1 k).symm
  · intro e _; rfl
  · intro k _; exact congrArg u (eq_ix1 k)

/-- Element `(n, j)` of a scatter of rows that are added. -/
theorem scatter2 (d : ScatterDims ⟨2, ![10000, 64]⟩ ⟨2, ![E, 1]⟩ ⟨2, ![E, 64]⟩) (huw : d.updateWindowDims = [1])
    (hiw : d.insertedWindowDims = [0])
    (hsd : d.scatterDimsToOperandDims = [0]) (hiv : d.indexVectorDim = 1)
    (x : (⟨2, ![10000, 64]⟩ : Shape).Idx → EReal) (idx : IVec ⟨2, ![E, 1]⟩ 32) (u : (⟨2, ![E, 64]⟩ : Shape).Idx → EReal)
    (n : Fin 10000) (j : Fin 64) :
    Host.scatterAdd (F := Ideal) (φ := .f32) d x idx u (ix2 n j)
      = x (ix2 n j) + ∑ e ∈ into (fun e : Fin E => idx (ix2 e (0 : Fin 1))) n, u (ix2 e j) := by
  show Ideal.hostScatterAdd d x idx u _ = _
  unfold Ideal.hostScatterAdd
  refine congrArg (x (ix2 n j) + ·) ?_
  have key : ∀ k : (⟨2, ![E, 64]⟩ : Shape).Idx, d.resultIdx? k idx = some (ix2 n j)
      → (idx (ix2 (k 0) (0 : Fin 1))).toInt = (n.val : ℤ) ∧ ix2 (k 0) j = k := fun k hk => by
    rw [eq_ix2 k] at hk
    have := (lands2 d huw hiw hsd hiv idx (k 0) (k 1) n j).1 hk
    refine ⟨this.1, ?_⟩
    rw [← this.2]
    exact (eq_ix2 k).symm
  refine Finset.sum_nbij' (fun k => k 0) (fun e => ix2 e j) ?_ ?_ ?_ ?_ ?_
  · intro k hk
    exact Finset.mem_filter.2 ⟨Finset.mem_univ _, (key k (Finset.mem_filter.1 hk).2).1⟩
  · intro e he
    exact Finset.mem_filter.2 ⟨Finset.mem_univ _, (lands2 d huw hiw hsd hiv idx e j n j).2 ⟨(Finset.mem_filter.1 he).2, rfl⟩⟩
  · intro k hk; exact (key k (Finset.mem_filter.1 hk).2).2
  · intro e _; rfl
  · intro k hk; exact (congrArg u (key k (Finset.mem_filter.1 hk).2).2).symm

/-- A guarded inverse square root read at one element. -/
theorem guarded_at {s : Shape} (x z t y : FVec Ideal s .f32) (i : s.Idx) :
    select (cmpf .ogt x z) (Host.rsqrt (maximumf x t)) y i
      = Scalar.select (Ideal.cmp .ogt (x i) (z i)) (Ideal.rsqrt (max (x i) (t i))) (y i) := rfl
/-- Products, sums and maxima read at one element. -/
theorem mulf_at {s : Shape} (x y : FVec Ideal s .f32) (i : s.Idx) : mulf x y i = (x i : EReal) * y i := rfl
/-- A sum read at one element. -/
theorem addf_at {s : Shape} (x y : FVec Ideal s .f32) (i : s.Idx) : addf x y i = (x i : EReal) + y i := rfl
/-- A maximum read at one element. -/
theorem maxf_at {s : Shape} (x y : FVec Ideal s .f32) (i : s.Idx) : maximumf x y i = max (x i : EReal) (y i) := rfl

end Cert.Maths

end
-- ==== Proof.Read.lean ====
module

public import Idealize.ShloMosaic.Lib.StackMember
public import Idealize.ShloMosaic.Lib.MatmulPlain
public import Idealize.ShloMosaic.Lib.Routing.Ops
public import proofs.«01_k».proof.Proof.Ops

/-! Broadcasts, slices, transposes and matrix products read at one element, at any extents. Nothing here names a
program. -/

@[expose] public section

noncomputable section

namespace Cert.Ops

open Idealize.ShloMosaic Idealize.ShloMosaic.ValueIdx

variable {α : Type} {N M : ℕ}

/-- A scalar spread over any shape. -/
theorem bc_scalar {s : Shape} (dims : Fin 0 → Fin s.rank) (h : (⟨0, ![]⟩ : Shape).BroadcastsInDim s dims) (x : (⟨0, ![]⟩ : Shape).Idx → α) (i : s.Idx) :
    broadcastInDim s dims h x i = x ix0 := congrArg x (eq_ix0 _)

/-- A vector spread along the columns of a table. -/
theorem bc_rows (h : (⟨1, ![N]⟩ : Shape).BroadcastsInDim ⟨2, ![N, M]⟩ ![0]) (x : (⟨1, ![N]⟩ : Shape).Idx → α) (n : Fin N) (j : Fin M) :
    broadcastInDim ⟨2, ![N, M]⟩ ![0] h x (ix2 n j) = x (ix1 n) := by
  refine congrArg x (funext fun a => Fin.ext ?_)
  obtain rfl : a = 0 := Subsingleton.elim _ _
  show (if h1 : N = 1 then (⟨0, _⟩ : Fin N) else ⟨n.val, _⟩).val = n.val
  split
  · have := n.isLt; show 0 = n.val; omega
  · rfl

/-- A vector spread along the rows of a table. -/
theorem bc_cols (h : (⟨1, ![M]⟩ : Shape).BroadcastsInDim ⟨2, ![N, M]⟩ ![1]) (x : (⟨1, ![M]⟩ : Shape).Idx → α) (n : Fin N) (j : Fin M) :
    broadcastInDim ⟨2, ![N, M]⟩ ![1] h x (ix2 n j) = x (ix1 j) := by
  refine congrArg x (funext fun a => Fin.ext ?_)
  obtain rfl : a = 0 := Subsingleton.elim _ _
  show (if h1 : M = 1 then (⟨0, _⟩ : Fin M) else ⟨j.val, _⟩).val = j.val
  split
  · have := j.isLt; show 0 = j.val; omega
  · rfl

/-- A one-column table spread over more columns. -/
theorem bc_col (h : (⟨2, ![N, 1]⟩ : Shape).BroadcastsInDim ⟨2, ![N, M]⟩ ![0, 1]) (x : (⟨2, ![N, 1]⟩ : Shape).Idx → α) (n : Fin N) (j : Fin M) :
    broadcastInDim ⟨2, ![N, M]⟩ ![0, 1] h x (ix2 n j) = x (ix2 n (0 : Fin 1)) := by
  refine congrArg x (funext fun a => Fin.ext ?_)
  match a with
  | ⟨0, _⟩ =>
    show (if h1 : N = 1 then (⟨0, _⟩ : Fin N) else ⟨n.val, _⟩).val = n.val
    split
    · have := n.isLt; show 0 = n.val; omega
    · rfl
  | ⟨1, _⟩ => rfl

/-- A one-row table spread over more rows. -/
theorem bc_row (h : (⟨2, ![1, M]⟩ : Shape).BroadcastsInDim ⟨2, ![N, M]⟩ ![0, 1]) (x : (⟨2, ![1, M]⟩ : Shape).Idx → α) (n : Fin N) (j : Fin M) :
    broadcastInDim ⟨2, ![N, M]⟩ ![0, 1] h x (ix2 n j) = x (ix2 (0 : Fin 1) j) := by
  refine congrArg x (funext fun a => Fin.ext ?_)
  match a with
  | ⟨0, _⟩ => rfl
  | ⟨1, _⟩ =>
    show (if h1 : M = 1 then (⟨0, _⟩ : Fin M) else ⟨j.val, _⟩).val = j.val
    split
    · have := j.isLt; show 0 = j.val; omega
    · rfl

/-- Row `r` of a table, cut out and made a vector. -/
theorem slice_row {R : ℕ} (r : Fin R) (x : (⟨2, ![R, M]⟩ : Shape).Idx → α) (h : (⟨2, ![R, M]⟩ : Shape).Slices ![r.val, 0] ⟨2, ![1, M]⟩)
    (hc : (⟨2, ![1, M]⟩ : Shape).ShapeCasts ⟨1, ![M]⟩) (j : Fin M) :
    shapeCast ⟨1, ![M]⟩ (extractStridedSlice ⟨2, ![1, M]⟩ ![r.val, 0] x h) hc (ix1 j) = x (ix2 r j) := by
  rw [Routing.cast21 _ hc (0 : Fin 1) j j (by show j.val = 0 * M + j.val; omega)]
  refine congrArg x (funext fun a => Fin.ext ?_)
  match a with
  | ⟨0, _⟩ => rfl
  | ⟨1, _⟩ => show 0 + j.val = j.val; omega

/-- A part of a vector. -/
theorem slice_vec (o : ℕ) (x : (⟨1, ![N]⟩ : Shape).Idx → α) (h : (⟨1, ![N]⟩ : Shape).Slices ![o] ⟨1, ![M]⟩) (j : Fin M) (k : Fin N) (hk : k.val = o + j.val) :
    extractStridedSlice ⟨1, ![M]⟩ ![o] x h (ix1 j) = x (ix1 k) := by
  refine congrArg x (funext fun a => Fin.ext ?_)
  obtain rfl : a = 0 := Subsingleton.elim _ _
  exact hk.symm

/-- Some rows of a table. -/
theorem slice_rows {R : ℕ} (o : ℕ) (x : (⟨2, ![N, R]⟩ : Shape).Idx → α) (h : (⟨2, ![N, R]⟩ : Shape).Slices ![o, 0] ⟨2, ![M, R]⟩) (i : Fin M) (j : Fin R)
    (k : Fin N) (hk : k.val = o + i.val) :
    extractStridedSlice ⟨2, ![M, R]⟩ ![o, 0] x h (ix2 i j) = x (ix2 k j) := by
  refine congrArg x (funext fun a => Fin.ext ?_)
  match a with
  | ⟨0, _⟩ => exact hk.symm
  | ⟨1, _⟩ => show 0 + j.val = j.val; omega

/-- Some columns of a table. -/
theorem slice_cols {R : ℕ} (o : ℕ) (x : (⟨2, ![R, N]⟩ : Shape).Idx → α) (h : (⟨2, ![R, N]⟩ : Shape).Slices ![0, o] ⟨2, ![R, M]⟩) (i : Fin R) (j : Fin M)
    (k : Fin N) (hk : k.val = o + j.val) :
    extractStridedSlice ⟨2, ![R, M]⟩ ![0, o] x h (ix2 i j) = x (ix2 i k) := by
  refine congrArg x (funext fun a => Fin.ext ?_)
  match a with
  | ⟨0, _⟩ => show 0 + i.val = i.val; omega
  | ⟨1, _⟩ => exact hk.symm

/-- A table with its axes exchanged. -/
theorem transpose_at (x : (⟨2, ![N, M]⟩ : Shape).Idx → α) (h : (⟨2, ![N, M]⟩ : Shape).Transposes [1, 0] ⟨2, ![M, N]⟩) (i : Fin M) (j : Fin N) :
    transpose ⟨2, ![M, N]⟩ [1, 0] x h (ix2 i j) = x (ix2 j i) := by
  refine congrArg x (funext fun a => Fin.ext ?_)
  match a with
  | ⟨0, _⟩ => rfl
  | ⟨1, _⟩ => rfl

/-- A product of two matrices. -/
theorem dot_mat {K : ℕ} (d : DotDims ⟨2, ![N, K]⟩ ⟨2, ![K, M]⟩ ⟨2, ![N, M]⟩) (hd : d = DotDims.plain N K M)
    (A : FVec Ideal ⟨2, ![N, K]⟩ .f32) (B : FVec Ideal ⟨2, ![K, M]⟩ .f32) (i : Fin N) (j : Fin M) :
    Host.dotGeneral d none A B (ix2 i j) = ∑ c : Fin K, A (ix2 i c) * B (ix2 c j) := by
  rw [hd]; exact Idealize.ShloMosaic.StackMember.dotGeneral_plain_apply none A B i j

/-- A product of a vector and a matrix. -/
theorem dot_vec {K : ℕ} (w : DotDims.WF ⟨1, ![K]⟩ ⟨2, ![K, M]⟩ ⟨1, ![M]⟩ [0] [0] [] [1] [] [])
    (A : FVec Ideal ⟨1, ![K]⟩ .f32) (B : FVec Ideal ⟨2, ![K, M]⟩ .f32) (j : Fin M) :
    Host.dotGeneral (⟨[0], [0], [], [1], [], [], w⟩ : DotDims ⟨1, ![K]⟩ ⟨2, ![K, M]⟩ ⟨1, ![M]⟩) none A B (ix1 j)
      = ∑ c : Fin K, A (ix1 c) * B (ix2 c j) := by
  show FloatOps.dotGeneral _ _ _ A B (ix1 j) = _
  rw [Ideal.dotGeneral_apply, ← Equiv.sum_comp (contrEquiv1 _ K rfl rfl).symm]
  refine Finset.sum_congr rfl fun c _ => ?_
  have c2 := contrEquiv1_symm_val (⟨[0], [0], [], [1], [], [], w⟩ : DotDims ⟨1, ![K]⟩ ⟨2, ![K, M]⟩ ⟨1, ![M]⟩) K rfl rfl c
  have hl : (⟨[0], [0], [], [1], [], [], w⟩ : DotDims ⟨1, ![K]⟩ ⟨2, ![K, M]⟩ ⟨1, ![M]⟩).lhsIdx (ix1 j) ((contrEquiv1 _ K rfl rfl).symm c) = ix1 c := by
    funext a; apply Fin.ext
    obtain rfl : a = 0 := Subsingleton.elim _ _
    simp [DotDims.lhsIdx]; exact c2
  have hr : (⟨[0], [0], [], [1], [], [], w⟩ : DotDims ⟨1, ![K]⟩ ⟨2, ![K, M]⟩ ⟨1, ![M]⟩).rhsIdx (ix1 j) ((contrEquiv1 _ K rfl rfl).symm c) = ix2 c j := by
    funext a; apply Fin.ext
    match a with
    | ⟨0, _⟩ => simp [DotDims.rhsIdx]; exact c2
    | ⟨1, _⟩ => simp [DotDims.rhsIdx]; rfl
  rw [hl, hr]

end Cert.Ops

end
-- ==== Proof.KernelIdeal.Pays.lean ====
module

public import proofs.«01_k».proof.Proof.KernelIdeal.LstmBody
public import proofs.«01_k».proof.Proof.KernelIdeal.Xw
public import proofs.«01_k».proof.Proof.Scatter
public import proofs.«01_k».proof.Proof.Read
public import Idealize.ShloMosaic.Lib.KernelVsHost

/-! What the two kernel bodies compute over the extended reals, read at one element. -/

@[expose] public section

set_option maxRecDepth 16384

noncomputable section

namespace Cert.Ops

open Idealize.ShloMosaic
open Idealize.ShloMosaic.ValueIdx

variable {α : Type} {N M : ℕ}

/-- A one-column block spread over more columns. -/
theorem spread_col (h : (⟨2, ![N, 1]⟩ : Shape).Broadcasts ⟨2, ![N, M]⟩) (x : (⟨2, ![N, 1]⟩ : Shape).Idx → α) (n : Fin N) (j : Fin M) :
    broadcastTo ⟨2, ![N, M]⟩ x h (ix2 n j) = x (ix2 n (0 : Fin 1)) := by
  refine congrArg x (funext fun a => Fin.ext ?_)
  match a with
  | ⟨0, _⟩ =>
    show (if h1 : N = 1 then (⟨0, _⟩ : Fin N) else ⟨n.val, _⟩).val = n.val
    split
    · have := n.isLt; show 0 = n.val; omega
    · rfl
  | ⟨1, _⟩ => rfl

/-- A one-row block spread over more rows. -/
theorem spread_row (h : (⟨2, ![1, M]⟩ : Shape).Broadcasts ⟨2, ![N, M]⟩) (x : (⟨2, ![1, M]⟩ : Shape).Idx → α) (n : Fin N) (j : Fin M) :
    broadcastTo ⟨2, ![N, M]⟩ x h (ix2 n j) = x (ix2 (0 : Fin 1) j) := by
  refine congrArg x (funext fun a => Fin.ext ?_)
  match a with
  | ⟨0, _⟩ => rfl
  | ⟨1, _⟩ =>
    show (if h1 : M = 1 then (⟨0, _⟩ : Fin M) else ⟨j.val, _⟩).val = j.val
    split
    · have := j.isLt; show 0 = j.val; omega
    · rfl

/-- A block product from zero. -/
theorem mm_at {K : ℕ} (d : DotDims ⟨2, ![N, K]⟩ ⟨2, ![K, M]⟩ ⟨2, ![N, M]⟩) (hd : d = DotDims.plain N K M)
    (A : FVec Ideal ⟨2, ![N, K]⟩ .f32) (B : FVec Ideal ⟨2, ![K, M]⟩ .f32) (i : Fin N) (j : Fin M) :
    matmul d none A B (constant ⟨2, ![N, M]⟩ .f32 0x00000000#32) (ix2 i j) = ∑ c : Fin K, A (ix2 i c) * B (ix2 c j) := by
  rw [matmul_zero_eq_dotGeneral]
  exact dot_mat d hd A B i j

end Cert.Ops

namespace Cert.KernelIdeal.Pays

open Cert.KernelIdeal Cert.KernelIdeal.Gen Cert.KernelIdeal.Run
open Idealize.ShloMosaic
open Idealize.ShloMosaic.TcCoe Idealize.ShloMosaic.ValueIdx
open Cert.Ops Cert.Maths
open scoped BigOperators

/-- An inverse square root read at one element. -/
theorem rsqrt_at {s : Shape} (x : FVec Ideal s .f32) (i : s.Idx) : rsqrt x i = Ideal.rsqrt (x i) := rfl
/-- A logistic function read at one element. -/
theorem logistic_at {s : Shape} (x : FVec Ideal s .f32) (i : s.Idx) : logistic x i = Ideal.logistic (x i) := rfl
/-- A hyperbolic tangent read at one element. -/
theorem tanh_at {s : Shape} (x : FVec Ideal s .f32) (i : s.Idx) : tanh x i = Ideal.tanh (x i) := rfl

/-- The block of factors. -/
theorem pay1_at (d : Vec Ideal S400x1 .f32) (r : Fin 400) :
    k0_pay1 d (ix2 r (0 : Fin 1)) = Ideal.rsqrt (d (ix2 r (0 : Fin 1))) := by
  unfold k0_pay1
  rw [rsqrt_at, shapeCast_self]

/-- The block of scaled products. -/
theorem pay2_at (x : Vec Ideal S400x128 .f32) (w : Vec Ideal S128x64 .f32) (d : Vec Ideal S400x1 .f32) (r : Fin 400) (j : Fin 64) :
    k0_pay2 x w d (ix2 r j) = (∑ k : Fin 128, (x (ix2 r k) : EReal) * w (ix2 k j)) * Ideal.rsqrt (d (ix2 r (0 : Fin 1))) := by
  unfold k0_pay2
  rw [mulf_at, mm_at dot_S400x128_S128x64_S400x64_1_0_0_1_n_n rfl, spread_col, pay1_at]

/-- The block of rows the cell runs on. -/
theorem pay7_at (d : Vec Ideal S400x1 .f32) (a : Vec Ideal S400x64 .f32) (b : Vec Ideal S1x64 .f32) (r : Fin 400) (j : Fin 64) :
    k1_pay7 d a b (ix2 r j) = max ((d (ix2 r (0 : Fin 1)) : EReal) * a (ix2 r j) + b (ix2 (0 : Fin 1) j)) 0 := by
  unfold k1_pay7
  rw [maxf_at, addf_at, mulf_at, spread_col, spread_row, shapeCast_self, shapeCast_self, shapeCast_self]
  exact congrArg _ bits_zero

/-- A gate's input part on a block: the rows through the gate's weights, and its bias. -/
def part (d : Vec Ideal S400x1 .f32) (a : Vec Ideal S400x64 .f32) (b : Vec Ideal S1x64 .f32) (w : Vec Ideal S64x64 .f32)
    (e : Vec Ideal S1x64 .f32) (r : Fin 400) (j : Fin 64) : EReal :=
  ∑ k : Fin 64, (k1_pay7 d a b (ix2 r k) : EReal) * w (ix2 k j) + e (ix2 (0 : Fin 1) j)

variable (d : Vec Ideal S400x1 .f32) (a : Vec Ideal S400x64 .f32) (b : Vec Ideal S1x64 .f32) (w : Vec Ideal S64x64 .f32)
    (e : Vec Ideal S1x64 .f32) (r : Fin 400) (j : Fin 64)

/-- The first gate's input part. -/
theorem pay8_at : k1_pay8 d a b w e (ix2 r j) = part d a b w e r j := by
  unfold k1_pay8 part
  rw [shapeCast_self, addf_at, mm_at dot_S400x64_S64x64_S400x64_1_0_0_1_n_n rfl, spread_row, shapeCast_self, shapeCast_self]
/-- The second gate's input part. -/
theorem pay9_at : k1_pay10 (k1_pay9 d a b w e) (ix2 r j) = part d a b w e r j := by
  unfold k1_pay10 k1_pay9 part
  rw [shapeCast_self, addf_at, mm_at dot_S400x64_S64x64_S400x64_1_0_0_1_n_n rfl, spread_row, shapeCast_self, shapeCast_self]
/-- The third gate's input part. -/
theorem pay11_at : k1_pay11 (k1_pay7 d a b) w e (ix2 r j) = part d a b w e r j := by
  unfold k1_pay11 part
  rw [shapeCast_self, addf_at, mm_at dot_S400x64_S64x64_S400x64_1_0_0_1_n_n rfl, spread_row, shapeCast_self, shapeCast_self]
/-- The fourth gate's input part. -/
theorem pay12_at : k1_pay12 (k1_pay7 d a b) w e (ix2 r j) = part d a b w e r j := by
  unfold k1_pay12 part
  rw [shapeCast_self, addf_at, mm_at dot_S400x64_S64x64_S400x64_1_0_0_1_n_n rfl, spread_row, shapeCast_self, shapeCast_self]

/-- The carried rows start at zero. -/
theorem zero_at (j : Fin 64) : k1_pay5 (F := Ideal) (ix2 (0 : Fin 1) j) = (0 : EReal) ∧ k1_pay6 (F := Ideal) (ix2 (0 : Fin 1) j) = (0 : EReal) := by
  unfold k1_pay5 k1_pay6
  rw [shapeCast_self]
  exact ⟨bits_zero, bits_zero⟩

/-- A gate of one step. -/
def pre (q : Vec Ideal S1x64 .f32) (h : Vec Ideal S1x64 .f32) (u : FVec Ideal S64x64 .f32) (j : Fin 64) : EReal :=
  (q (ix2 (0 : Fin 1) j) : EReal) + ∑ k : Fin 64, (h (ix2 (0 : Fin 1) k) : EReal) * u (ix2 k j)

/-- The new cell row of one step. -/
theorem cell_c (ui uf ug : FVec Ideal S64x64 .f32) (h c qi qf qg : Vec Ideal S1x64 .f32) (j : Fin 64) :
    k1_pay1 ui uf ug h c qi qf qg (ix2 (0 : Fin 1) j)
      = Ideal.logistic (pre qf h uf j) * c (ix2 (0 : Fin 1) j) + Ideal.logistic (pre qi h ui j) * Ideal.tanh (pre qg h ug j) := by
  unfold k1_pay1 pre
  simp only [addf_at, mulf_at, logistic_at, tanh_at, mm_at dot_S1x64_S64x64_S1x64_1_0_0_1_n_n rfl]

/-- The new hidden row of one step. -/
theorem cell_h (ui uf ug uo : FVec Ideal S64x64 .f32) (h c qi qf qg qo : Vec Ideal S1x64 .f32) (j : Fin 64) :
    k1_pay2 ui uf ug uo h c qi qf qg qo (ix2 (0 : Fin 1) j)
      = Ideal.logistic (pre qo h uo j) * Ideal.tanh (k1_pay1 ui uf ug h c qi qf qg (ix2 (0 : Fin 1) j)) := by
  unfold k1_pay2 pre
  simp only [addf_at, mulf_at, logistic_at, tanh_at, mm_at dot_S1x64_S64x64_S1x64_1_0_0_1_n_n rfl]

end Cert.KernelIdeal.Pays

end
-- ==== Proof.KernelIdeal.Blocks.lean ====
module

public import proofs.«01_k».proof.Proof.KernelIdeal.Entry
public import proofs.«01_k».proof.Proof.KernelIdeal.Pays
public import Idealize.ShloMosaic.Lib.Pipeline.ValueKit
public import Idealize.ShloMosaic.Lib.Pipeline.ValueKit.Geometry

/-! The two regions' blocks as rows of the arrays: block `t` holds rows `400 t` to `400 t + 399`. -/

@[expose] public section

set_option maxRecDepth 16384

noncomputable section

namespace Cert.KernelIdeal.Blocks

open Cert.KernelIdeal Cert.KernelIdeal.Gen Cert.KernelIdeal.Run
open Idealize.ShloMosaic hiding ix0 ix1 ix2
open Idealize.ShloMosaic.TcCoe Idealize.ShloMosaic.ValueIdx
open Idealize.ShloMosaic.Pipeline (Dat Cfg Window)

variable {F : FTy → Type} [FloatOps F] (V : Dev nD → Valuation τ sig (Elt F)) (c : Dev nD)

/-- Row `r` of block `t`. -/
def at0 (t : Fin cfg0.N) (r : Fin 400) : Fin 10000 := ⟨400 * t.val + r.val, by have := t.isLt; have h := N_0; change t.val < grid0.N at this; omega⟩
/-- Row `r` of block `t`, for the second region. -/
def at1 (t : Fin cfg1.N) (r : Fin 400) : Fin 10000 := ⟨400 * t.val + r.val, by have := t.isLt; have h := N_1; change t.val < grid1.N at this; omega⟩

/-! The block each window reads or writes at a point. -/
/-! The block each window reads or writes at a point. -/
/-- Region 0's window 0: the block of each point. -/
theorem idx0_0 : ∀ t : Fin cfg0.N, (cfg0.win 0).index t = ![t.val, 0] := by decide +kernel
/-- Region 0's window 1: the block of each point. -/
theorem idx0_1 : ∀ t : Fin cfg0.N, (cfg0.win 1).index t = ![0, 0] := by decide +kernel
/-- Region 0's window 2: the block of each point. -/
theorem idx0_2 : ∀ t : Fin cfg0.N, (cfg0.win 2).index t = ![t.val, 0] := by decide +kernel
/-- Region 0's window 3: the block of each point. -/
theorem idx0_3 : ∀ t : Fin cfg0.N, (cfg0.win 3).index t = ![t.val, 0] := by decide +kernel
/-- Region 0's window 4: the block of each point. -/
theorem idx0_4 : ∀ t : Fin cfg0.N, (cfg0.win 4).index t = ![t.val, 0] := by decide +kernel
/-- Region 1's window 0: the block of each point. -/
theorem idx1_0 : ∀ t : Fin cfg1.N, (cfg1.win 0).index t = ![t.val, 0] := by decide +kernel
/-- Region 1's window 1: the block of each point. -/
theorem idx1_1 : ∀ t : Fin cfg1.N, (cfg1.win 1).index t = ![t.val, 0] := by decide +kernel
/-- Region 1's window 2: the block of each point. -/
theorem idx1_2 : ∀ t : Fin cfg1.N, (cfg1.win 2).index t = ![0, 0] := by decide +kernel
/-- Region 1's window 3: the block of each point. -/
theorem idx1_3 : ∀ t : Fin cfg1.N, (cfg1.win 3).index t = ![0, 0] := by decide +kernel
/-- Region 1's window 4: the block of each point. -/
theorem idx1_4 : ∀ t : Fin cfg1.N, (cfg1.win 4).index t = ![0, 0] := by decide +kernel
/-- Region 1's window 5: the block of each point. -/
theorem idx1_5 : ∀ t : Fin cfg1.N, (cfg1.win 5).index t = ![0, 0] := by decide +kernel
/-- Region 1's window 6: the block of each point. -/
theorem idx1_6 : ∀ t : Fin cfg1.N, (cfg1.win 6).index t = ![0, 0] := by decide +kernel
/-- Region 1's window 7: the block of each point. -/
theorem idx1_7 : ∀ t : Fin cfg1.N, (cfg1.win 7).index t = ![0, 0] := by decide +kernel
/-- Region 1's window 8: the block of each point. -/
theorem idx1_8 : ∀ t : Fin cfg1.N, (cfg1.win 8).index t = ![0, 0] := by decide +kernel
/-- Region 1's window 9: the block of each point. -/
theorem idx1_9 : ∀ t : Fin cfg1.N, (cfg1.win 9).index t = ![0, 0] := by decide +kernel
/-- Region 1's window 10: the block of each point. -/
theorem idx1_10 : ∀ t : Fin cfg1.N, (cfg1.win 10).index t = ![0, 0] := by decide +kernel
/-- Region 1's window 11: the block of each point. -/
theorem idx1_11 : ∀ t : Fin cfg1.N, (cfg1.win 11).index t = ![0, 0] := by decide +kernel
/-- Region 1's window 12: the block of each point. -/
theorem idx1_12 : ∀ t : Fin cfg1.N, (cfg1.win 12).index t = ![0, 0] := by decide +kernel
/-- Region 1's window 13: the block of each point. -/
theorem idx1_13 : ∀ t : Fin cfg1.N, (cfg1.win 13).index t = ![0, 0] := by decide +kernel
/-- Region 1's window 14: the block of each point. -/
theorem idx1_14 : ∀ t : Fin cfg1.N, (cfg1.win 14).index t = ![0, 0] := by decide +kernel
/-- Region 1's window 15: the block of each point. -/
theorem idx1_15 : ∀ t : Fin cfg1.N, (cfg1.win 15).index t = ![t.val, 0] := by decide +kernel

/-! What the input blocks hold, read at one element. -/
/-- Region 0's window 0: what its block holds. -/
theorem blk0_0 (t : Fin cfg0.N) (r : Fin 400) (k : Fin 128) :
    Xw.blk V c 0 t (ix2 r k) = V c (Proc.devRef .tc main_arg0) (ix2 (at0 t r) k) := by
  refine congrArg (V c (Proc.devRef .tc main_arg0)) (funext fun a => Fin.ext ?_)
  refine (Window.rect_emb_val (cfg0.win 0) t (ix2 r k) a).trans ?_
  rw [idx0_0]
  match a with
  | ⟨0, _⟩ => show t.val * 400 + r.val = 400 * t.val + r.val; omega
  | ⟨1, _⟩ => show 0 * 128 + k.val = k.val; omega
/-- Region 0's window 1: what its block holds. -/
theorem blk0_1 (t : Fin cfg0.N) (r : Fin 128) (k : Fin 64) :
    Xw.blk V c 1 t (ix2 r k) = V c (Proc.devRef .tc main_arg2) (ix2 r k) := by
  refine congrArg (V c (Proc.devRef .tc main_arg2)) (funext fun a => Fin.ext ?_)
  refine (Window.rect_emb_val (cfg0.win 1) t (ix2 r k) a).trans ?_
  rw [idx0_1]
  match a with
  | ⟨0, _⟩ => show 0 * 128 + r.val = r.val; omega
  | ⟨1, _⟩ => show 0 * 64 + k.val = k.val; omega
/-- Region 0's window 2: what its block holds. -/
theorem blk0_2 (t : Fin cfg0.N) (r : Fin 400) (k : Fin 1) :
    Xw.blk V c 2 t (ix2 r k) = V c (Proc.devRef .tc main_v10) (ix2 (at0 t r) k) := by
  refine congrArg (V c (Proc.devRef .tc main_v10)) (funext fun a => Fin.ext ?_)
  refine (Window.rect_emb_val (cfg0.win 2) t (ix2 r k) a).trans ?_
  rw [idx0_2]
  match a with
  | ⟨0, _⟩ => show t.val * 400 + r.val = 400 * t.val + r.val; omega
  | ⟨1, _⟩ => show 0 * 1 + k.val = k.val; omega
/-- Region 1's window 0: what its block holds. -/
theorem blk1_0 (t : Fin cfg1.N) (r : Fin 400) (k : Fin 64) :
    Lstm.blk V c 0 t (ix2 r k) = V c (Proc.devRef .tc main_v16) (ix2 (at1 t r) k) := by
  refine congrArg (V c (Proc.devRef .tc main_v16)) (funext fun a => Fin.ext ?_)
  refine (Window.rect_emb_val (cfg1.win 0) t (ix2 r k) a).trans ?_
  rw [idx1_0]
  match a with
  | ⟨0, _⟩ => show t.val * 400 + r.val = 400 * t.val + r.val; omega
  | ⟨1, _⟩ => show 0 * 64 + k.val = k.val; omega
/-- Region 1's window 1: what its block holds. -/
theorem blk1_1 (t : Fin cfg1.N) (r : Fin 400) (k : Fin 1) :
    Lstm.blk V c 1 t (ix2 r k) = V c (Proc.devRef .tc main_v11_1) (ix2 (at1 t r) k) := by
  refine congrArg (V c (Proc.devRef .tc main_v11_1)) (funext fun a => Fin.ext ?_)
  refine (Window.rect_emb_val (cfg1.win 1) t (ix2 r k) a).trans ?_
  rw [idx1_1]
  match a with
  | ⟨0, _⟩ => show t.val * 400 + r.val = 400 * t.val + r.val; omega
  | ⟨1, _⟩ => show 0 * 1 + k.val = k.val; omega
/-- Region 1's window 2: what its block holds. -/
theorem blk1_2 (t : Fin cfg1.N) (r : Fin 1) (k : Fin 64) :
    Lstm.blk V c 2 t (ix2 r k) = V c (Proc.devRef .tc main_v36) (ix2 r k) := by
  refine congrArg (V c (Proc.devRef .tc main_v36)) (funext fun a => Fin.ext ?_)
  refine (Window.rect_emb_val (cfg1.win 2) t (ix2 r k) a).trans ?_
  rw [idx1_2]
  match a with
  | ⟨0, _⟩ => show 0 * 1 + r.val = r.val; omega
  | ⟨1, _⟩ => show 0 * 64 + k.val = k.val; omega
/-- Region 1's window 3: what its block holds. -/
theorem blk1_3 (t : Fin cfg1.N) (r : Fin 64) (k : Fin 64) :
    Lstm.blk V c 3 t (ix2 r k) = V c (Proc.devRef .tc main_v20) (ix2 r k) := by
  refine congrArg (V c (Proc.devRef .tc main_v20)) (funext fun a => Fin.ext ?_)
  refine (Window.rect_emb_val (cfg1.win 3) t (ix2 r k) a).trans ?_
  rw [idx1_3]
  match a with
  | ⟨0, _⟩ => show 0 * 64 + r.val = r.val; omega
  | ⟨1, _⟩ => show 0 * 64 + k.val = k.val; omega
/-- Region 1's window 4: what its block holds. -/
theorem blk1_4 (t : Fin cfg1.N) (r : Fin 64) (k : Fin 64) :
    Lstm.blk V c 4 t (ix2 r k) = V c (Proc.devRef .tc main_v21) (ix2 r k) := by
  refine congrArg (V c (Proc.devRef .tc main_v21)) (funext fun a => Fin.ext ?_)
  refine (Window.rect_emb_val (cfg1.win 4) t (ix2 r k) a).trans ?_
  rw [idx1_4]
  match a with
  | ⟨0, _⟩ => show 0 * 64 + r.val = r.val; omega
  | ⟨1, _⟩ => show 0 * 64 + k.val = k.val; omega
/-- Region 1's window 5: what its block holds. -/
theorem blk1_5 (t : Fin cfg1.N) (r : Fin 64) (k : Fin 64) :
    Lstm.blk V c 5 t (ix2 r k) = V c (Proc.devRef .tc main_v22) (ix2 r k) := by
  refine congrArg (V c (Proc.devRef .tc main_v22)) (funext fun a => Fin.ext ?_)
  refine (Window.rect_emb_val (cfg1.win 5) t (ix2 r k) a).trans ?_
  rw [idx1_5]
  match a with
  | ⟨0, _⟩ => show 0 * 64 + r.val = r.val; omega
  | ⟨1, _⟩ => show 0 * 64 + k.val = k.val; omega
/-- Region 1's window 6: what its block holds. -/
theorem blk1_6 (t : Fin cfg1.N) (r : Fin 64) (k : Fin 64) :
    Lstm.blk V c 6 t (ix2 r k) = V c (Proc.devRef .tc main_v23) (ix2 r k) := by
  refine congrArg (V c (Proc.devRef .tc main_v23)) (funext fun a => Fin.ext ?_)
  refine (Window.rect_emb_val (cfg1.win 6) t (ix2 r k) a).trans ?_
  rw [idx1_6]
  match a with
  | ⟨0, _⟩ => show 0 * 64 + r.val = r.val; omega
  | ⟨1, _⟩ => show 0 * 64 + k.val = k.val; omega
/-- Region 1's window 7: what its block holds. -/
theorem blk1_7 (t : Fin cfg1.N) (r : Fin 1) (k : Fin 64) :
    Lstm.blk V c 7 t (ix2 r k) = V c (Proc.devRef .tc main_v29) (ix2 r k) := by
  refine congrArg (V c (Proc.devRef .tc main_v29)) (funext fun a => Fin.ext ?_)
  refine (Window.rect_emb_val (cfg1.win 7) t (ix2 r k) a).trans ?_
  rw [idx1_7]
  match a with
  | ⟨0, _⟩ => show 0 * 1 + r.val = r.val; omega
  | ⟨1, _⟩ => show 0 * 64 + k.val = k.val; omega
/-- Region 1's window 8: what its block holds. -/
theorem blk1_8 (t : Fin cfg1.N) (r : Fin 1) (k : Fin 64) :
    Lstm.blk V c 8 t (ix2 r k) = V c (Proc.devRef .tc main_v31) (ix2 r k) := by
  refine congrArg (V c (Proc.devRef .tc main_v31)) (funext fun a => Fin.ext ?_)
  refine (Window.rect_emb_val (cfg1.win 8) t (ix2 r k) a).trans ?_
  rw [idx1_8]
  match a with
  | ⟨0, _⟩ => show 0 * 1 + r.val = r.val; omega
  | ⟨1, _⟩ => show 0 * 64 + k.val = k.val; omega
/-- Region 1's window 9: what its block holds. -/
theorem blk1_9 (t : Fin cfg1.N) (r : Fin 1) (k : Fin 64) :
    Lstm.blk V c 9 t (ix2 r k) = V c (Proc.devRef .tc main_v33) (ix2 r k) := by
  refine congrArg (V c (Proc.devRef .tc main_v33)) (funext fun a => Fin.ext ?_)
  refine (Window.rect_emb_val (cfg1.win 9) t (ix2 r k) a).trans ?_
  rw [idx1_9]
  match a with
  | ⟨0, _⟩ => show 0 * 1 + r.val = r.val; omega
  | ⟨1, _⟩ => show 0 * 64 + k.val = k.val; omega
/-- Region 1's window 10: what its block holds. -/
theorem blk1_10 (t : Fin cfg1.N) (r : Fin 1) (k : Fin 64) :
    Lstm.blk V c 10 t (ix2 r k) = V c (Proc.devRef .tc main_v35) (ix2 r k) := by
  refine congrArg (V c (Proc.devRef .tc main_v35)) (funext fun a => Fin.ext ?_)
  refine (Window.rect_emb_val (cfg1.win 10) t (ix2 r k) a).trans ?_
  rw [idx1_10]
  match a with
  | ⟨0, _⟩ => show 0 * 1 + r.val = r.val; omega
  | ⟨1, _⟩ => show 0 * 64 + k.val = k.val; omega
/-- Region 1's window 11: what its block holds. -/
theorem blk1_11 (t : Fin cfg1.N) (r : Fin 64) (k : Fin 64) :
    Lstm.blk V c 11 t (ix2 r k) = V c (Proc.devRef .tc main_v24) (ix2 r k) := by
  refine congrArg (V c (Proc.devRef .tc main_v24)) (funext fun a => Fin.ext ?_)
  refine (Window.rect_emb_val (cfg1.win 11) t (ix2 r k) a).trans ?_
  rw [idx1_11]
  match a with
  | ⟨0, _⟩ => show 0 * 64 + r.val = r.val; omega
  | ⟨1, _⟩ => show 0 * 64 + k.val = k.val; omega
/-- Region 1's window 12: what its block holds. -/
theorem blk1_12 (t : Fin cfg1.N) (r : Fin 64) (k : Fin 64) :
    Lstm.blk V c 12 t (ix2 r k) = V c (Proc.devRef .tc main_v25) (ix2 r k) := by
  refine congrArg (V c (Proc.devRef .tc main_v25)) (funext fun a => Fin.ext ?_)
  refine (Window.rect_emb_val (cfg1.win 12) t (ix2 r k) a).trans ?_
  rw [idx1_12]
  match a with
  | ⟨0, _⟩ => show 0 * 64 + r.val = r.val; omega
  | ⟨1, _⟩ => show 0 * 64 + k.val = k.val; omega
/-- Region 1's window 13: what its block holds. -/
theorem blk1_13 (t : Fin cfg1.N) (r : Fin 64) (k : Fin 64) :
    Lstm.blk V c 13 t (ix2 r k) = V c (Proc.devRef .tc main_v26) (ix2 r k) := by
  refine congrArg (V c (Proc.devRef .tc main_v26)) (funext fun a => Fin.ext ?_)
  refine (Window.rect_emb_val (cfg1.win 13) t (ix2 r k) a).trans ?_
  rw [idx1_13]
  match a with
  | ⟨0, _⟩ => show 0 * 64 + r.val = r.val; omega
  | ⟨1, _⟩ => show 0 * 64 + k.val = k.val; omega
/-- Region 1's window 14: what its block holds. -/
theorem blk1_14 (t : Fin cfg1.N) (r : Fin 64) (k : Fin 64) :
    Lstm.blk V c 14 t (ix2 r k) = V c (Proc.devRef .tc main_v27) (ix2 r k) := by
  refine congrArg (V c (Proc.devRef .tc main_v27)) (funext fun a => Fin.ext ?_)
  refine (Window.rect_emb_val (cfg1.win 14) t (ix2 r k) a).trans ?_
  rw [idx1_14]
  match a with
  | ⟨0, _⟩ => show 0 * 64 + r.val = r.val; omega
  | ⟨1, _⟩ => show 0 * 64 + k.val = k.val; omega

/-- The first region leaves an array whose rows its blocks hold. -/
theorem arr0_3 (G : S10000x64.Idx → Elt F .f32)
    (h : ∀ (t : Fin cfg0.N) (r : Fin 400) (j : Fin 64), k0_pay2 (Xw.blk V c 0 t) (Xw.blk V c 1 t) (Xw.blk V c 2 t) (ix2 r j) = G (ix2 (at0 t r) j)) :
    (Xw.dat V c).arrAt 3 cfg0.N = G := by
  refine (Xw.dat V c).arrAt_eq_of_covers 3 G (by decide +kernel) fun t hf y => ?_
  blk_simp
  rw [Xw.after_3]
  obtain ⟨r, j, rfl⟩ : ∃ (r : Fin 400) (j : Fin 64), y = ix2 r j := ⟨y 0, y 1, ValueIdx.eq_ix2 (n0 := 400) (n1 := 64) y⟩
  refine (h t r j).trans (congrArg G (funext fun a => Fin.ext ?_))
  refine Eq.trans ?_ (Window.rect_emb_val (cfg0.win 3) t (ix2 r j) a).symm
  rw [idx0_3]
  match a with
  | ⟨0, _⟩ => show 400 * t.val + r.val = t.val * 400 + r.val; omega
  | ⟨1, _⟩ => show j.val = 0 * 64 + j.val; omega

/-- Likewise its second result. -/
theorem arr0_4 (G : S10000x1.Idx → Elt F .f32)
    (h : ∀ (t : Fin cfg0.N) (r : Fin 400) (j : Fin 1), k0_pay1 (Xw.blk V c 2 t) (ix2 r j) = G (ix2 (at0 t r) j)) :
    (Xw.dat V c).arrAt 4 cfg0.N = G := by
  refine (Xw.dat V c).arrAt_eq_of_covers 4 G (by decide +kernel) fun t hf y => ?_
  blk_simp
  rw [Xw.after_4]
  obtain ⟨r, j, rfl⟩ : ∃ (r : Fin 400) (j : Fin 1), y = ix2 r j := ⟨y 0, y 1, ValueIdx.eq_ix2 (n0 := 400) (n1 := 1) y⟩
  refine (h t r j).trans (congrArg G (funext fun a => Fin.ext ?_))
  refine Eq.trans ?_ (Window.rect_emb_val (cfg0.win 4) t (ix2 r j) a).symm
  rw [idx0_4]
  match a with
  | ⟨0, _⟩ => show 400 * t.val + r.val = t.val * 400 + r.val; omega
  | ⟨1, _⟩ => show j.val = 0 * 1 + j.val; omega

/-- Likewise the second region. -/
theorem arr1_15 (G : S10000x64.Idx → Elt F .f32)
    (h : ∀ (t : Fin cfg1.N) (r : Fin 400) (j : Fin 64), Lstm.out (Lstm.wts V c t) (Lstm.gts V c t) (Lstm.carry V c t.val) (ix2 r j) = G (ix2 (at1 t r) j)) :
    (Lstm.dat V c).arrAt 15 cfg1.N = G := by
  refine (Lstm.dat V c).arrAt_eq_of_covers 15 G (by decide +kernel) fun t hf y => ?_
  blk_simp
  rw [Lstm.after_15]
  obtain ⟨r, j, rfl⟩ : ∃ (r : Fin 400) (j : Fin 64), y = ix2 r j := ⟨y 0, y 1, ValueIdx.eq_ix2 (n0 := 400) (n1 := 64) y⟩
  refine (h t r j).trans (congrArg G (funext fun a => Fin.ext ?_))
  refine Eq.trans ?_ (Window.rect_emb_val (cfg1.win 15) t (ix2 r j) a).symm
  rw [idx1_15]
  match a with
  | ⟨0, _⟩ => show 400 * t.val + r.val = t.val * 400 + r.val; omega
  | ⟨1, _⟩ => show j.val = 0 * 64 + j.val; omega

end Cert.KernelIdeal.Blocks

end
-- ==== Proof.KernelIdeal.Nodes.lean ====
module

public import proofs.«01_k».proof.Proof.KernelIdeal.Blocks

/-! What the second region finds over the extended reals: the arrays of the node rows before the last factor, the
factors, the gates' weights and the biases, read at one element. -/

@[expose] public section

set_option maxRecDepth 16384

noncomputable section

namespace Cert.KernelIdeal.Nodes

open Cert.KernelIdeal Cert.KernelIdeal.Gen Cert.KernelIdeal.Run Cert.KernelIdeal.Entry Cert.KernelIdeal.Blocks
open Idealize.ShloMosaic hiding ix0 ix1 ix2
open Idealize.ShloMosaic.TcCoe Idealize.ShloMosaic.StableHlo Idealize.ShloMosaic.ValueIdx
open Cert.Ops Cert.Maths
open scoped BigOperators

/-- The list of edges. -/
abbrev Edges := (⟨S2x320000, .i32⟩ : BufTy).Contents (Elt Ideal)

/-- The source of an edge, read. -/
theorem srcs_at (a : Edges) (e : Fin 320000) : srcs (F := Ideal) a (ix1 e) = src a e := slice_row (0 : Fin 2) a _ _ e
/-- The target of an edge, read. -/
theorem dsts_at (a : Edges) (e : Fin 320000) : dsts (F := Ideal) a (ix1 e) = dst a e := slice_row (1 : Fin 2) a _ _ e

/-- The edges into a node, by the targets as the scatters are given them. -/
theorem into_dsts (a : Edges) (n : Fin 10000) :
    into (fun e : Fin 320000 => broadcastInDim S320000x1 ![0] bcast_S320000_S320000x1_0 (dsts (F := Ideal) a) (ix2 e (0 : Fin 1))) n = into (dst a) n :=
  congrArg (fun f => into f n) (funext fun e => (bc_rows _ _ e 0).trans (dsts_at a e))

/-- The row number an edge's word names. -/
theorem wraps_at (x : (⟨S320000, .i32⟩ : BufTy).Contents (Elt Ideal)) (e : Fin 320000) :
    wraps (F := Ideal) x (ix2 e (0 : Fin 1)) = wrap (x (ix1 e)) := by
  unfold wraps
  rw [bc_rows]; rfl

variable (m : (ℓ : Loc nD τ sig) → Buf (Elt Ideal) ℓ) (c : Dev nD)

/-- An array at launch. -/
abbrev arg (r : Ref sig .tc) : (Proc.devRef .tc r : DevRef τ sig).ty.Contents (Elt Ideal) := m ((c.tc : Thread nD τ).loc r)

/-- The product of the features and their weights. -/
abbrev xw : Fin 10000 → Fin 64 → EReal := prod (arg m c main_arg0) (arg m c main_arg2)

/-- The factor of a node. -/
abbrev dv (n : Fin 10000) : EReal := dinv (dst (arg m c main_arg1)) n

/-- The product's rows scaled by the factor of their node. -/
abbrev yw (n : Fin 10000) (j : Fin 64) : EReal := xw m c n j * dv m c n

/-- The first region finds the degrees. -/
theorem V1_v10 (n : Fin 10000) : V1 m c (Proc.devRef .tc main_v10) (ix2 n (0 : Fin 1)) = deg (dst (arg m c main_arg1)) n := by
  unfold V1
  rw [s0_v10, bc_rows, addf_at, bc_scalar, const_one, scatter1 _ rfl rfl rfl, bc_scalar, const_zero, zero_add, into_dsts]
  refine congrArg (1 + ·) (Finset.sum_congr rfl fun e _ => ?_)
  rw [bc_scalar, const_one]

/-- The first region's results. -/
theorem left0_y : left0 m c (Proc.devRef .tc main_v11_0) = fun i : S10000x64.Idx => yw m c (i 0) (i 1) := by
  refine (Pipeline.afterRegion_arr (Xw.dat (V1 m) c) (V1 m c) launch0.win.arr_inj 3).trans (arr0_3 (V1 m) c _ fun t r j => ?_)
  rw [Pays.pay2_at, blk0_2, V1_v10]
  refine congrArg₂ (· * ·) (Finset.sum_congr rfl fun k _ => ?_) rfl
  rw [blk0_0, blk0_1, V1_of m c main_arg0 (by decide +kernel), V1_of m c main_arg2 (by decide +kernel)]
/-- Its second result: the factors. -/
theorem left0_d : left0 m c (Proc.devRef .tc main_v11_1) = fun i : S10000x1.Idx => dv m c (i 0) := by
  refine (Pipeline.afterRegion_arr (Xw.dat (V1 m) c) (V1 m c) launch0.win.arr_inj 4).trans (arr0_4 (V1 m) c _ fun t r j => ?_)
  obtain rfl : j = 0 := Subsingleton.elim _ _
  rw [Pays.pay1_at, blk0_2, V1_v10]
  rfl

/-- What the host finds after it. -/
theorem V2_y : V2 m (outs0 m) c (Proc.devRef .tc main_v11_0) = fun i : S10000x64.Idx => yw m c (i 0) (i 1) := by
  rw [V2, Function.update_of_ne (StableHlo.devRef_ne_of_ne (by decide)), Function.update_self]
  exact left0_y m c
/-- The host finds the factors. -/
theorem V2_d : V2 m (outs0 m) c (Proc.devRef .tc main_v11_1) = fun i : S10000x1.Idx => dv m c (i 0) := by
  rw [V2, Function.update_self]
  exact left0_d m c
/-- The host still finds the sources. -/
theorem V2_v1 : V2 m (outs0 m) c (Proc.devRef .tc main_v1) = srcs (F := Ideal) (arg m c main_arg1) :=
  (V2_of m _ c main_v1 (by decide +kernel)).trans (s0_v1 _)
/-- The host still finds the targets. -/
theorem V3_v3 : V3 m (outs0 m) c (Proc.devRef .tc main_v3) = dsts (F := Ideal) (arg m c main_arg1) :=
  (V3_of m _ c main_v3 (by decide +kernel)).trans ((V2_of m _ c main_v3 (by decide +kernel)).trans (s0_v3 _))

/-- The row taken for an edge. -/
theorem V3_v12 (e : Fin 320000) (j : Fin 64) : V3 m (outs0 m) c (Proc.devRef .tc main_v12) (ix2 e j)
    = take (yw m c) (src (arg m c main_arg1) e) j := by
  unfold V3
  rw [s1_v12, V2_v1, select_apply, bc_rows, reduce_unit, gather2 rows_pos _ rfl rfl rfl rfl rfl rfl, bc_scalar, const_nan, V2_y]
  unfold take ok at'
  rw [← srcs_at, ← wraps_at]
  rfl

/-- The node rows before the last factor. -/
theorem V4_v16 (n : Fin 10000) (j : Fin 64) : V4 m (outs0 m) c (Proc.devRef .tc main_v16) (ix2 n j)
    = yw m c n j + ∑ e ∈ into (dst (arg m c main_arg1)) n, take (yw m c) (src (arg m c main_arg1) e) j := by
  unfold V4
  rw [s2_v16, addf_at, scatter2 _ rfl rfl rfl rfl, bc_scalar, const_zero, zero_add, V3_v3, into_dsts,
    V3_of m _ c main_v11_0 (by decide +kernel), V2_y]
  refine congrArg₂ (· + ·) rfl (Finset.sum_congr rfl fun e _ => ?_)
  exact V3_v12 m c e j

/-- The factors. -/
theorem V4_d (n : Fin 10000) : V4 m (outs0 m) c (Proc.devRef .tc main_v11_1) (ix2 n (0 : Fin 1)) = dv m c n := by
  rw [V4_of m _ c main_v11_1 (by decide +kernel), V3_of m _ c main_v11_1 (by decide +kernel), V2_d]

/-- An argument is as launched. -/
theorem V3_arg (r : Ref sig .tc) (h0 : r ∉ hostOps0_W) (h1 : r ∉ ([main_v11_0, main_v11_1] : List (Ref sig .tc))) (h2 : r ∉ hostOps1_W) :
    V3 m (outs0 m) c (Proc.devRef .tc r) = arg m c r :=
  (V3_of m _ c r h2).trans ((V2_of m _ c r h1).trans (V1_of m c r h0))
/-- Argument 3 is as launched. -/
theorem V3_arg3 : V3 m (outs0 m) c (Proc.devRef .tc main_arg3) = arg m c main_arg3 :=
  V3_arg m c main_arg3 (by decide +kernel) (by decide +kernel) (by decide +kernel)
/-- Argument 4 is as launched. -/
theorem V3_arg4 : V3 m (outs0 m) c (Proc.devRef .tc main_arg4) = arg m c main_arg4 :=
  V3_arg m c main_arg4 (by decide +kernel) (by decide +kernel) (by decide +kernel)
/-- Argument 5 is as launched. -/
theorem V3_arg5 : V3 m (outs0 m) c (Proc.devRef .tc main_arg5) = arg m c main_arg5 :=
  V3_arg m c main_arg5 (by decide +kernel) (by decide +kernel) (by decide +kernel)
/-- Argument 6 is as launched. -/
theorem V3_arg6 : V3 m (outs0 m) c (Proc.devRef .tc main_arg6) = arg m c main_arg6 :=
  V3_arg m c main_arg6 (by decide +kernel) (by decide +kernel) (by decide +kernel)
/-- Argument 7 is as launched. -/
theorem V3_arg7 : V3 m (outs0 m) c (Proc.devRef .tc main_arg7) = arg m c main_arg7 :=
  V3_arg m c main_arg7 (by decide +kernel) (by decide +kernel) (by decide +kernel)

/-! The gates' weights and biases: gate `q`'s are entries `64 q` to `64 q + 63`. -/

variable (k j : Fin 64)

/-- The first gate's weights on the input. -/
theorem V4_v20 : V4 m (outs0 m) c (Proc.devRef .tc main_v20) (ix2 k j) = arg m c main_arg4 (ix2 (gidx 0 j) k) := by
  unfold V4
  rw [s2_v20, slice_cols 0 _ _ k j (gidx 0 j) rfl, transpose_at, V3_arg4]

/-- The second gate's weights on the input. -/
theorem V4_v21 : V4 m (outs0 m) c (Proc.devRef .tc main_v21) (ix2 k j) = arg m c main_arg4 (ix2 (gidx 1 j) k) := by
  unfold V4
  rw [s2_v21, slice_cols 64 _ _ k j (gidx 1 j) rfl, transpose_at, V3_arg4]

/-- The third gate's weights on the input. -/
theorem V4_v22 : V4 m (outs0 m) c (Proc.devRef .tc main_v22) (ix2 k j) = arg m c main_arg4 (ix2 (gidx 2 j) k) := by
  unfold V4
  rw [s2_v22, slice_cols 128 _ _ k j (gidx 2 j) rfl, transpose_at, V3_arg4]

/-- The fourth gate's weights on the input. -/
theorem V4_v23 : V4 m (outs0 m) c (Proc.devRef .tc main_v23) (ix2 k j) = arg m c main_arg4 (ix2 (gidx 3 j) k) := by
  unfold V4
  rw [s2_v23, slice_cols 192 _ _ k j (gidx 3 j) rfl, transpose_at, V3_arg4]

/-- The first gate's weights on the hidden row. -/
theorem V4_v24 : V4 m (outs0 m) c (Proc.devRef .tc main_v24) (ix2 k j) = arg m c main_arg5 (ix2 (gidx 0 j) k) := by
  unfold V4
  rw [s2_v24, slice_cols 0 _ _ k j (gidx 0 j) rfl, transpose_at, V3_arg5]

/-- The second gate's weights on the hidden row. -/
theorem V4_v25 : V4 m (outs0 m) c (Proc.devRef .tc main_v25) (ix2 k j) = arg m c main_arg5 (ix2 (gidx 1 j) k) := by
  unfold V4
  rw [s2_v25, slice_cols 64 _ _ k j (gidx 1 j) rfl, transpose_at, V3_arg5]

/-- The third gate's weights on the hidden row. -/
theorem V4_v26 : V4 m (outs0 m) c (Proc.devRef .tc main_v26) (ix2 k j) = arg m c main_arg5 (ix2 (gidx 2 j) k) := by
  unfold V4
  rw [s2_v26, slice_cols 128 _ _ k j (gidx 2 j) rfl, transpose_at, V3_arg5]

/-- The fourth gate's weights on the hidden row. -/
theorem V4_v27 : V4 m (outs0 m) c (Proc.devRef .tc main_v27) (ix2 k j) = arg m c main_arg5 (ix2 (gidx 3 j) k) := by
  unfold V4
  rw [s2_v27, slice_cols 192 _ _ k j (gidx 3 j) rfl, transpose_at, V3_arg5]

/-- The first gate's bias: the sum of the two biases. -/
theorem V4_v29 : V4 m (outs0 m) c (Proc.devRef .tc main_v29) (ix2 (0 : Fin 1) j)
    = entries (arg m c main_arg6) (gidx 0 j) + entries (arg m c main_arg7) (gidx 0 j) := by
  unfold V4
  rw [s2_v29, bc_cols, slice_vec 0 _ _ j (gidx 0 j) rfl, addf_at, V3_arg6, V3_arg7]
  rfl

/-- The second gate's bias: the sum of the two biases. -/
theorem V4_v31 : V4 m (outs0 m) c (Proc.devRef .tc main_v31) (ix2 (0 : Fin 1) j)
    = entries (arg m c main_arg6) (gidx 1 j) + entries (arg m c main_arg7) (gidx 1 j) := by
  unfold V4
  rw [s2_v31, bc_cols, slice_vec 64 _ _ j (gidx 1 j) rfl, addf_at, V3_arg6, V3_arg7]
  rfl

/-- The third gate's bias: the sum of the two biases. -/
theorem V4_v33 : V4 m (outs0 m) c (Proc.devRef .tc main_v33) (ix2 (0 : Fin 1) j)
    = entries (arg m c main_arg6) (gidx 2 j) + entries (arg m c main_arg7) (gidx 2 j) := by
  unfold V4
  rw [s2_v33, bc_cols, slice_vec 128 _ _ j (gidx 2 j) rfl, addf_at, V3_arg6, V3_arg7]
  rfl

/-- The fourth gate's bias: the sum of the two biases. -/
theorem V4_v35 : V4 m (outs0 m) c (Proc.devRef .tc main_v35) (ix2 (0 : Fin 1) j)
    = entries (arg m c main_arg6) (gidx 3 j) + entries (arg m c main_arg7) (gidx 3 j) := by
  unfold V4
  rw [s2_v35, bc_cols, slice_vec 192 _ _ j (gidx 3 j) rfl, addf_at, V3_arg6, V3_arg7]
  rfl

/-- The convolution's bias. -/
theorem V4_v36 : V4 m (outs0 m) c (Proc.devRef .tc main_v36) (ix2 (0 : Fin 1) j) = entries (arg m c main_arg3) j := by
  unfold V4
  rw [s2_v36, bc_cols, V3_arg3]
  rfl

end Cert.KernelIdeal.Nodes

end
-- ==== Proof.KernelIdeal.Value.lean ====
module

public import proofs.«01_k».proof.Proof.KernelIdeal.Nodes

/-! The second region over the extended reals: block after block it carries the hidden and the cell state after as many
steps of `Cert.Maths.Cell.state` as rows lie before, and leaves the hidden states. -/

@[expose] public section

set_option maxRecDepth 16384

noncomputable section

namespace Cert.KernelIdeal.Value

open Cert.KernelIdeal Cert.KernelIdeal.Gen Cert.KernelIdeal.Run Cert.KernelIdeal.Blocks Cert.KernelIdeal.Nodes
open Idealize.ShloMosaic hiding ix0 ix1 ix2
open Idealize.ShloMosaic.TcCoe Idealize.ShloMosaic.ValueIdx
open Cert.Ops Cert.Maths
open scoped BigOperators

variable (m : (ℓ : Loc nD τ sig) → Buf (Elt Ideal) ℓ) (c : Dev nD)

/-- The cell of the launched weights and biases. -/
def W : Cell := Maths.cellOf (arg m c main_arg4) (arg m c main_arg5) (arg m c main_arg6) (arg m c main_arg7)

/-- The rows the cell runs on: the convolution. -/
def X : Fin 10000 → Fin 64 → EReal :=
  conv (src (arg m c main_arg1)) (dst (arg m c main_arg1)) (xw m c) (entries (arg m c main_arg3))

/-- What the second region finds. -/
abbrev V (c : Dev nD) : Valuation τ sig (Elt Ideal) := V4 m (outs0 m) c

/-- A block of rows. -/
theorem rows_at (t : Fin cfg1.N) (r : Fin 400) (k : Fin 64) :
    k1_pay7 (Lstm.blk (V m) c 1 t) (Lstm.blk (V m) c 0 t) (Lstm.blk (V m) c 2 t) (ix2 r k) = X m c (at1 t r) k := by
  rw [Pays.pay7_at, blk1_0, blk1_1, blk1_2, show V m c = V4 m (outs0 m) c from rfl, V4_d, V4_v16, V4_v36]
  rfl

/-- Gate `q`'s input part at a row. -/
def inp (x : Fin 64 → EReal) (q : Fin 4) (j : Fin 64) : EReal :=
  ∑ k, x k * (W m c).wi (gidx q j) k + ((W m c).bi (gidx q j) + (W m c).bh (gidx q j))

/-- A gate's input part on a block, from its weights and its bias. -/
theorem part_at (q : Fin 4) (t : Fin cfg1.N) (w : Vec Ideal S64x64 .f32) (e : Vec Ideal S1x64 .f32)
    (hw : ∀ k j, w (ix2 k j) = arg m c main_arg4 (ix2 (gidx q j) k))
    (he : ∀ j, e (ix2 (0 : Fin 1) j) = entries (arg m c main_arg6) (gidx q j) + entries (arg m c main_arg7) (gidx q j))
    (r : Fin 400) (j : Fin 64) :
    Pays.part (Lstm.blk (V m) c 1 t) (Lstm.blk (V m) c 0 t) (Lstm.blk (V m) c 2 t) w e r j = inp m c (X m c (at1 t r)) q j := by
  unfold Pays.part inp
  rw [he]
  refine congrArg₂ (· + ·) (Finset.sum_congr rfl fun k _ => ?_) rfl
  rw [rows_at, hw]
  rfl

/-! The four gates of a block. -/

/-- The first gate's input part. -/
theorem gi_at (t : Fin cfg1.N) (r : Fin 400) (j : Fin 64) : (Lstm.gts (V m) c t).gi (ix2 r j) = inp m c (X m c (at1 t r)) 0 j :=
  (Pays.pay8_at _ _ _ _ _ r j).trans (part_at m c 0 t _ _ (fun k j => (blk1_3 (V m) c t k j).trans (V4_v20 m c k j))
    (fun j => (blk1_7 (V m) c t 0 j).trans (V4_v29 m c j)) r j)
/-- The second gate's input part. -/
theorem gf_at (t : Fin cfg1.N) (r : Fin 400) (j : Fin 64) : (Lstm.gts (V m) c t).gf (ix2 r j) = inp m c (X m c (at1 t r)) 1 j :=
  (Pays.pay9_at _ _ _ _ _ r j).trans (part_at m c 1 t _ _ (fun k j => (blk1_4 (V m) c t k j).trans (V4_v21 m c k j))
    (fun j => (blk1_8 (V m) c t 0 j).trans (V4_v31 m c j)) r j)
/-- The third gate's input part. -/
theorem gg_at (t : Fin cfg1.N) (r : Fin 400) (j : Fin 64) : (Lstm.gts (V m) c t).gg (ix2 r j) = inp m c (X m c (at1 t r)) 2 j :=
  (Pays.pay11_at _ _ _ _ _ r j).trans (part_at m c 2 t _ _ (fun k j => (blk1_5 (V m) c t k j).trans (V4_v22 m c k j))
    (fun j => (blk1_9 (V m) c t 0 j).trans (V4_v33 m c j)) r j)
/-- The fourth gate's input part. -/
theorem go_at (t : Fin cfg1.N) (r : Fin 400) (j : Fin 64) : (Lstm.gts (V m) c t).go (ix2 r j) = inp m c (X m c (at1 t r)) 3 j :=
  (Pays.pay12_at _ _ _ _ _ r j).trans (part_at m c 3 t _ _ (fun k j => (blk1_6 (V m) c t k j).trans (V4_v23 m c k j))
    (fun j => (blk1_10 (V m) c t 0 j).trans (V4_v35 m c j)) r j)

/-! The four gates' weights on the hidden row. -/

/-- The body uses the weights as they are. -/
theorem pay13_eq (x : Vec Ideal S64x64 .f32) : k1_pay13 x = x := by unfold k1_pay13; rw [shapeCast_self]
/-- The body uses the weights as they are. -/
theorem pay14_eq (x : Vec Ideal S64x64 .f32) : k1_pay14 x = x := by unfold k1_pay14; rw [shapeCast_self]
/-- The body uses the weights as they are. -/
theorem pay15_eq (x : Vec Ideal S64x64 .f32) : k1_pay15 x = x := by unfold k1_pay15; rw [shapeCast_self]
/-- The body uses the weights as they are. -/
theorem pay16_eq (x : Vec Ideal S64x64 .f32) : k1_pay16 x = x := by unfold k1_pay16; rw [shapeCast_self]

/-- The first gate's weights on the hidden row. -/
theorem wi_at (t : Fin cfg1.N) (k j : Fin 64) : (Lstm.wts (V m) c t).wi (ix2 k j) = (W m c).wh (gidx 0 j) k :=
  (congrFun (pay13_eq _) (ix2 k j)).trans ((blk1_11 (V m) c t k j).trans (V4_v24 m c k j))
/-- The second gate's weights on the hidden row. -/
theorem wf_at (t : Fin cfg1.N) (k j : Fin 64) : (Lstm.wts (V m) c t).wf (ix2 k j) = (W m c).wh (gidx 1 j) k :=
  (congrFun (pay14_eq _) (ix2 k j)).trans ((blk1_12 (V m) c t k j).trans (V4_v25 m c k j))
/-- The third gate's weights on the hidden row. -/
theorem wg_at (t : Fin cfg1.N) (k j : Fin 64) : (Lstm.wts (V m) c t).wg (ix2 k j) = (W m c).wh (gidx 2 j) k :=
  (congrFun (pay15_eq _) (ix2 k j)).trans ((blk1_13 (V m) c t k j).trans (V4_v26 m c k j))
/-- The fourth gate's weights on the hidden row. -/
theorem wo_at (t : Fin cfg1.N) (k j : Fin 64) : (Lstm.wts (V m) c t).wo (ix2 k j) = (W m c).wh (gidx 3 j) k :=
  (congrFun (pay16_eq _) (ix2 k j)).trans ((blk1_14 (V m) c t k j).trans (V4_v27 m c k j))

/-- A pair of one-row blocks holds the state after `n` steps. -/
def Holds (s : Vec Ideal S1x64 .f32 × Vec Ideal S1x64 .f32) (n : ℕ) : Prop :=
  ∀ j : Fin 64, s.1 (ix2 (0 : Fin 1) j) = ((W m c).state (rowsOf (X m c)) n).1 j
    ∧ s.2 (ix2 (0 : Fin 1) j) = ((W m c).state (rowsOf (X m c)) n).2 j

/-- A gate of one step is the cell's. -/
theorem pre_at (q : Fin 4) (x h : Fin 64 → EReal) (g hb : Vec Ideal S1x64 .f32) (u : FVec Ideal S64x64 .f32)
    (hg : ∀ j, g (ix2 (0 : Fin 1) j) = inp m c x q j) (hh : ∀ j, hb (ix2 (0 : Fin 1) j) = h j)
    (hu : ∀ k j, u (ix2 k j) = (W m c).wh (gidx q j) k) (j : Fin 64) : Pays.pre g hb u j = (W m c).gate x h (gidx q j) := by
  unfold Pays.pre
  rw [hg, ← Cell.gate_kernel]
  refine congrArg₂ (· + ·) rfl (Finset.sum_congr rfl fun k _ => ?_)
  rw [hh, hu]

/-- A row of a block, read. -/
theorem rowOf_at (x : Vec Ideal S400x64 .f32) (r : Fin 400) (j : Fin 64) : Lstm.rowOf x r.val (ix2 (0 : Fin 1) j) = x (ix2 r j) := by
  unfold Lstm.rowOf
  exact congrArg (fun i => x (ix2 i j)) (Fin.ext (Nat.mod_eq_of_lt r.isLt))

/-- One step. -/
theorem step (t : Fin cfg1.N) (r : Fin 400) (s : Vec Ideal S1x64 .f32 × Vec Ideal S1x64 .f32) (hs : Holds m c s (at1 t r).val) :
    Holds m c (Lstm.cell (Lstm.wts (V m) c t) (Lstm.rowOf (Lstm.gts (V m) c t).gi r.val) (Lstm.rowOf (Lstm.gts (V m) c t).gf r.val)
      (Lstm.rowOf (Lstm.gts (V m) c t).gg r.val) (Lstm.rowOf (Lstm.gts (V m) c t).go r.val) s) ((at1 t r).val + 1) := by
  have hi := pre_at m c 0 (X m c (at1 t r)) _ _ _ _ (fun j => (rowOf_at _ r j).trans (gi_at m c t r j)) (fun j => (hs j).1) (wi_at m c t)
  have hf := pre_at m c 1 (X m c (at1 t r)) _ _ _ _ (fun j => (rowOf_at _ r j).trans (gf_at m c t r j)) (fun j => (hs j).1) (wf_at m c t)
  have hg := pre_at m c 2 (X m c (at1 t r)) _ _ _ _ (fun j => (rowOf_at _ r j).trans (gg_at m c t r j)) (fun j => (hs j).1) (wg_at m c t)
  have ho := pre_at m c 3 (X m c (at1 t r)) _ _ _ _ (fun j => (rowOf_at _ r j).trans (go_at m c t r j)) (fun j => (hs j).1) (wo_at m c t)
  have hc : ∀ j, k1_pay1 (Lstm.wts (V m) c t).wi (Lstm.wts (V m) c t).wf (Lstm.wts (V m) c t).wg s.1 s.2
      (Lstm.rowOf (Lstm.gts (V m) c t).gi r.val) (Lstm.rowOf (Lstm.gts (V m) c t).gf r.val) (Lstm.rowOf (Lstm.gts (V m) c t).gg r.val) (ix2 (0 : Fin 1) j)
      = (W m c).cnext (X m c (at1 t r)) ((W m c).state (rowsOf (X m c)) (at1 t r).val).1 ((W m c).state (rowsOf (X m c)) (at1 t r).val).2 j := fun j => by
    rw [Pays.cell_c, hi, hf, hg, (hs j).2]
    rfl
  intro j
  rw [Cell.state, rowsOf_of]
  refine ⟨?_, hc j⟩
  refine (Pays.cell_h _ _ _ _ _ _ _ _ _ _ j).trans ?_
  rw [ho, hc]
  rfl

/-- The first `k` rows of a block. -/
theorem block (t : Fin cfg1.N) (s : Vec Ideal S1x64 .f32 × Vec Ideal S1x64 .f32) (hs : Holds m c s (400 * t.val)) :
    ∀ k, k ≤ 400 → Holds m c (Lstm.rows (Lstm.wts (V m) c t) (Lstm.gts (V m) c t) s k) (400 * t.val + k)
  | 0, _ => hs
  | k + 1, hk => step m c t ⟨k, hk⟩ _ (block t s hs k (Nat.le_of_lt hk))

/-- What is carried into point `n`. -/
theorem carried : ∀ n, n ≤ 25 → Holds m c (Lstm.carry (V m) c n) (400 * n)
  | 0, _ => fun j => Pays.zero_at j
  | n + 1, hn => by
    have h := block m c (Lstm.pt n) (Lstm.carry (V m) c n)
    have e : (Lstm.pt n).val = n := Nat.mod_eq_of_lt (by rw [N_1]; omega)
    rw [e] at h
    exact h (carried n (by omega)) 400 (le_refl _)

/-- The kernel's result: row `i` is the hidden state after `i + 1` steps. -/
theorem result : left1 m c (Proc.devRef .tc main_v37)
    = fun i : S10000x64.Idx => ((W m c).state (rowsOf (X m c)) ((i 0).val + 1)).1 (i 1) := by
  refine (Pipeline.afterRegion_arr (Lstm.dat (V m) c) (V m c) launch1.win.arr_inj 15).trans (arr1_15 (V m) c _ fun t r j => ?_)
  have ht : t.val ≤ 25 := by have h := t.isLt; have h' := N_1; change t.val < grid1.N at h; omega
  exact (block m c t _ (carried m c t.val ht) (r.val + 1) r.isLt j).1

end Cert.KernelIdeal.Value

end
-- ==== Proof.ReferenceIdeal.Entry.lean ====
module

public import proofs.«01_k».proof.Proof.Gen.ReferenceIdeal.Run

/-! What the reference's operations before its loop leave in their buffers, one stretch after the other, as
terms of the contents before the stretch. -/

@[expose] public section

set_option maxRecDepth 16384

noncomputable section

namespace Cert.ReferenceIdeal.Entry

open Cert.ReferenceIdeal Cert.ReferenceIdeal.Gen
open Idealize.ShloMosaic Idealize.ShloMosaic.TcCoe Idealize.ShloMosaic.StableHlo

variable {F : FTy → Type} [FloatOps F]

/-- Contents of every buffer on one device. -/
abbrev Val (F : FTy → Type) := Valuation τ sig (Elt F)

/-- The sources of the edges, and then every node. -/
def srcs (a : (⟨S2x320000, .i32⟩ : BufTy).Contents (Elt F)) : (⟨S330000, .i32⟩ : BufTy).Contents (Elt F) :=
  concatenate S330000 0 [⟨S320000, shapeCast S320000 (extractStridedSlice S1x320000 ![0, 0] a slices_S2x320000_S1x320000_0_0) shapeCasts_S1x320000_S320000⟩, ⟨S10000, iotaInDim S10000 32 0⟩] concatenates_S320000_S10000_S330000_d0

/-- The targets of the edges, and then every node. -/
def dsts (a : (⟨S2x320000, .i32⟩ : BufTy).Contents (Elt F)) : (⟨S330000, .i32⟩ : BufTy).Contents (Elt F) :=
  concatenate S330000 0 [⟨S320000, shapeCast S320000 (extractStridedSlice S1x320000 ![1, 0] a slices_S2x320000_S1x320000_1_0) shapeCasts_S1x320000_S320000⟩, ⟨S10000, iotaInDim S10000 32 0⟩] concatenates_S320000_S10000_S330000_d0

/-- The degrees. -/
def degs (a : (⟨S2x320000, .i32⟩ : BufTy).Contents (Elt F)) : (⟨S10000, .f32⟩ : BufTy).Contents (Elt F) :=
  Host.scatterAdd scatter_S10000_S330000x1_S330000_n_0_0_1 (broadcastInDim S10000 ![] bcast_S_S10000 (constant S_ .f32 0x00000000#32))
    (broadcastInDim S330000x1 ![0] bcast_S330000_S330000x1_0 (dsts a)) (broadcastInDim S330000 ![] bcast_S_S330000 (constant S_ .f32 0x3F800000#32))

/-- The first stretch leaves the sources. -/
theorem s0_v3 (V : Val F) : after hostOps0 V (Proc.devRef .tc main_v3) = srcs (V (Proc.devRef .tc main_arg1)) := by
  after_results
  rfl
/-- The first stretch leaves the targets. -/
theorem s0_v6 (V : Val F) : after hostOps0 V (Proc.devRef .tc main_v6) = dsts (V (Proc.devRef .tc main_arg1)) := by
  after_results
  rfl
/-- The first stretch leaves where the degree is positive. -/
theorem s0_v12 (V : Val F) : after hostOps0 V (Proc.devRef .tc main_v12)
    = cmpf .ogt (degs (V (Proc.devRef .tc main_arg1))) (broadcastInDim S10000 ![] bcast_S_S10000 (constant S_ .f32 0x00000000#32)) := by
  after_results
  rfl
/-- The first stretch leaves the roots of the bounded degrees. -/
theorem s0_v15 (V : Val F) : after hostOps0 V (Proc.devRef .tc main_v15)
    = Host.rsqrt (maximumf (degs (V (Proc.devRef .tc main_arg1))) (broadcastInDim S10000 ![] bcast_S_S10000 (constant S_ .f32 0x2B8CBCCC#32))) := by
  after_results
  rfl
/-- The first stretch leaves a zero. -/
theorem s0_cst (V : Val F) : after hostOps0 V (Proc.devRef .tc main_cst_3) = constant S_ .f32 0x00000000#32 := by
  after_results

/-- The second stretch guards the roots. -/
theorem s1_v16 (V : Val F) : after hostOps0_1 V (Proc.devRef .tc main_v16)
    = select (V (Proc.devRef .tc main_v12)) (V (Proc.devRef .tc main_v15)) (broadcastInDim S10000 ![] bcast_S_S10000 (V (Proc.devRef .tc main_cst_3))) := by
  after_results
  rfl

/-- Row numbers counted from the end where they are negative, one per row. -/
def wraps (x : (⟨S330000, .i32⟩ : BufTy).Contents (Elt F)) : (⟨S330000x1, .i32⟩ : BufTy).Contents (Elt F) :=
  broadcastInDim S330000x1 ![0] bcast_S330000_S330000x1_0
    (select (cmpi .slt x (broadcastInDim S330000 ![] bcast_S_S330000 (constantI S_ 32 0#32)))
      (addi x (broadcastInDim S330000 ![] bcast_S_S330000 (constantI S_ 32 10000#32))) x)

/-- The third stretch leaves the edges' weights. -/
theorem s2_v33 (V : Val F) : after hostOps0_2 V (Proc.devRef .tc main_v33)
    = broadcastInDim S330000x1 ![0] bcast_S330000_S330000x1_0
      (mulf (Host.gather gather_S10000_S330000x1_S330000_n_0_n_n_0_1_1 (V (Proc.devRef .tc main_v16)) (wraps (V (Proc.devRef .tc main_v3))))
        (Host.gather gather_S10000_S330000x1_S330000_n_0_n_n_0_1_1 (V (Proc.devRef .tc main_v16)) (wraps (V (Proc.devRef .tc main_v6))))) := by
  after_results
  rfl
/-- The third stretch leaves the product of the features and their weights. -/
theorem s2_v32 (V : Val F) : after hostOps0_2 V (Proc.devRef .tc main_v32)
    = Host.dotGeneral dot_S10000x128_S128x64_S10000x64_1_0_0_1_n_n none (V (Proc.devRef .tc main_arg0)) (V (Proc.devRef .tc main_arg2)) := by
  after_results

/-- The fourth stretch leaves the rows taken for the edges. -/
theorem s3_v34 (V : Val F) : after hostOps0_3 V (Proc.devRef .tc main_v34)
    = select (broadcastInDim S330000x64 ![0] bcast_S330000_S330000x64_0
        (Host.reduce IntOp.andi (andi (cmpi .sge (wraps (V (Proc.devRef .tc main_v3))) (broadcastInDim S330000x1 ![] bcast_S_S330000x1 (constantI S_ 32 0#32)))
            (cmpi .sle (wraps (V (Proc.devRef .tc main_v3))) (broadcastInDim S330000x1 ![0, 1] bcast_S1x1_S330000x1_0_1 (broadcastInDim S1x1 ![1] bcast_S1_S1x1_1 (constantI S1 32 9999#32)))))
          (constantI S_ 1 1#1) reducesTo_S330000x1_S330000_d1 h_S_))
      (Host.gather gather_S10000x64_S330000x1_S330000x64_1_0_n_n_0_1_164 (V (Proc.devRef .tc main_v32)) (wraps (V (Proc.devRef .tc main_v3))))
      (broadcastInDim S330000x64 ![] bcast_S_S330000x64 (constant S_ .f32 0x7FC00000#32)) := by
  after_results_simp
  simp only [TRef.ofBuf_toBuf]
  have a : ∀ h1 h2 h3 x, (TRef.of main_v3 h1 h2 h3 : TRef sig ⟨S330000, .i32⟩).ofBuf (Val := Elt F) x = x := fun _ _ _ _ => rfl
  have b : ∀ h1 h2 h3 x, (TRef.of main_v32 h1 h2 h3 : TRef sig ⟨S10000x64, .f32⟩).ofBuf (Val := Elt F) x = x := fun _ _ _ _ => rfl
  have d : ∀ h1 h2 h3 x, (TRef.of main_v34 h1 h2 h3 : TRef sig ⟨S330000x64, .f32⟩).toBuf (Val := Elt F) x = x := fun _ _ _ _ => rfl
  simp only [a, b, d]
  unfold wraps
  rfl

/-- The fifth stretch leaves the weighted sums and the bias. -/
theorem s4_v42 (V : Val F) : after hostOps0_4 V (Proc.devRef .tc main_v42)
    = addf (Host.scatterAdd scatter_S10000x64_S330000x1_S330000x64_1_0_0_1 (broadcastInDim S10000x64 ![] bcast_S_S10000x64 (constant S_ .f32 0x00000000#32))
        (broadcastInDim S330000x1 ![0] bcast_S330000_S330000x1_0 (V (Proc.devRef .tc main_v6)))
        (mulf (broadcastInDim S330000x64 ![0, 1] bcast_S330000x1_S330000x64_0_1 (V (Proc.devRef .tc main_v33))) (V (Proc.devRef .tc main_v34))))
      (broadcastInDim S10000x64 ![0, 1] bcast_S1x64_S10000x64_0_1 (broadcastInDim S1x64 ![1] bcast_S64_S1x64_1 (V (Proc.devRef .tc main_arg3)))) := by
  after_results

/-- The sixth stretch leaves the maximum with zero. -/
theorem s5_v43 (V : Val F) : after hostOps0_5 V (Proc.devRef .tc main_v43)
    = maximumf (V (Proc.devRef .tc main_v42)) (broadcastInDim S10000x64 ![] bcast_S_S10000x64 (constant S_ .f32 0x00000000#32)) := by
  after_results
  rfl

/-- The loop starts on the rows of the convolution. -/
theorem s6_0 (V : Val F) : after hostOps0_6 V (Proc.devRef .tc main_v47_0) = V (Proc.devRef .tc main_v43) := by
  after_results
  rfl
/-- The loop starts with the weights or the bias as launched. -/
theorem s6_1 (V : Val F) : after hostOps0_6 V (Proc.devRef .tc main_v47_1) = V (Proc.devRef .tc main_arg4) := by
  after_results
  rfl
/-- The loop starts with the weights or the bias as launched. -/
theorem s6_2 (V : Val F) : after hostOps0_6 V (Proc.devRef .tc main_v47_2) = V (Proc.devRef .tc main_arg6) := by
  after_results
  rfl
/-- The loop starts with the weights or the bias as launched. -/
theorem s6_3 (V : Val F) : after hostOps0_6 V (Proc.devRef .tc main_v47_3) = V (Proc.devRef .tc main_arg5) := by
  after_results
  rfl
/-- The loop starts with the weights or the bias as launched. -/
theorem s6_4 (V : Val F) : after hostOps0_6 V (Proc.devRef .tc main_v47_4) = V (Proc.devRef .tc main_arg7) := by
  after_results
  rfl
/-- The loop starts at trip zero. -/
theorem s6_5 (V : Val F) : after hostOps0_6 V (Proc.devRef .tc main_v47_5) = constantI S_ 32 0#32 := by
  after_results
  rfl
/-- The loop starts with a hidden row of zeros. -/
theorem s6_6 (V : Val F) : after hostOps0_6 V (Proc.devRef .tc main_v47_6) = broadcastInDim S64 ![] bcast_S_S64 (constant S_ .f32 0x00000000#32) := by
  after_results
  rfl
/-- The loop starts with a cell row of zeros. -/
theorem s6_7 (V : Val F) : after hostOps0_6 V (Proc.devRef .tc main_v47_7) = broadcastInDim S64 ![] bcast_S_S64 (constant S_ .f32 0x00000000#32) := by
  after_results
  rfl

end Cert.ReferenceIdeal.Entry

end
-- ==== Proof.ReferenceIdeal.Conv.lean ====
module

public import proofs.«01_k».proof.Proof.ReferenceIdeal.Entry
public import proofs.«01_k».proof.Proof.Scatter
public import proofs.«01_k».proof.Proof.Read

/-! The reference's graph convolution over the extended reals, read at one element: it is `Cert.Maths.conv` of
the edges, the product of the features and their weights, and the bias. -/

@[expose] public section

set_option maxRecDepth 16384

noncomputable section

namespace Cert.ReferenceIdeal.Entry

open Cert.ReferenceIdeal Cert.ReferenceIdeal.Gen
open Idealize.ShloMosaic Idealize.ShloMosaic.TcCoe Idealize.ShloMosaic.StableHlo Idealize.ShloMosaic.ValueIdx
open Cert.Ops Cert.Maths
open scoped BigOperators

/-- The list of edges. -/
abbrev Edges := (⟨S2x320000, .i32⟩ : BufTy).Contents (Elt Ideal)

/-- An edge's source in the longer list. -/
theorem srcs_edge (a : Edges) (e : Fin 320000) (k : Fin 330000) (h : k.val = e.val) : srcs (F := Ideal) a (ix1 k) = src a e := by
  unfold srcs src
  exact (concat_left _ _ concatenates_S320000_S10000_S330000_d0 e k h).trans (slice_row (0 : Fin 2) a _ _ e)
/-- An edge's target in the longer list. -/
theorem dsts_edge (a : Edges) (e : Fin 320000) (k : Fin 330000) (h : k.val = e.val) : dsts (F := Ideal) a (ix1 k) = dst a e := by
  unfold dsts dst
  exact (concat_left _ _ concatenates_S320000_S10000_S330000_d0 e k h).trans (slice_row (1 : Fin 2) a _ _ e)
/-- The source of the edge from a node to itself. -/
theorem srcs_loop (a : Edges) (n : Fin 10000) (k : Fin 330000) (h : k.val = 320000 + n.val) : srcs (F := Ideal) a (ix1 k) = BitVec.ofNat 32 n.val := by
  unfold srcs
  exact concat_right _ _ concatenates_S320000_S10000_S330000_d0 n k h
/-- The target of the edge from a node to itself. -/
theorem dsts_loop (a : Edges) (n : Fin 10000) (k : Fin 330000) (h : k.val = 320000 + n.val) : dsts (F := Ideal) a (ix1 k) = BitVec.ofNat 32 n.val := by
  unfold dsts
  exact concat_right _ _ concatenates_S320000_S10000_S330000_d0 n k h

/-- The longer list: every edge, then one from each node to itself. -/
theorem loops (a : Edges) : Loops (src a) (dst a) (fun e : Fin 330000 => srcs a (ix1 e)) (fun e : Fin 330000 => dsts a (ix1 e)) where
  size := by norm_num
  src_edge e := srcs_edge a e _ rfl
  dst_edge e := dsts_edge a e _ rfl
  src_loop n := srcs_loop a n _ rfl
  dst_loop n := dsts_loop a n _ rfl

/-- The degrees are the kernel's. -/
theorem degs_at (a : Edges) (n : Fin 10000) : degs (F := Ideal) a (ix1 n) = deg (dst a) n := by
  unfold degs
  rw [scatter1 _ rfl rfl rfl, bc_scalar, const_zero, zero_add, ← ref_deg (loops a) n]
  refine Finset.sum_congr (congrArg (fun f => into f n) (funext fun e => bc_rows _ _ e 0)) fun e _ => ?_
  rw [bc_scalar, const_one]

/-- The guarded factors of the nodes. -/
def dvec (a : Edges) : (⟨S10000, .f32⟩ : BufTy).Contents (Elt Ideal) :=
  select (cmpf (F := Ideal) (φ := .f32) .ogt (degs (F := Ideal) a) (broadcastInDim S10000 ![] bcast_S_S10000 (constant (F := Ideal) S_ .f32 0x00000000#32)))
    (Host.rsqrt (F := Ideal) (φ := .f32) (maximumf (degs (F := Ideal) a) (broadcastInDim S10000 ![] bcast_S_S10000 (constant (F := Ideal) S_ .f32 0x2B8CBCCC#32))))
    (broadcastInDim S10000 ![] bcast_S_S10000 (constant (F := Ideal) S_ .f32 0x00000000#32))

/-- The guarded factor of a node is the kernel's. -/
theorem dvec_at (a : Edges) (n : Fin 10000) : dvec a (ix1 n) = dinv (dst a) n := by
  unfold dvec
  rw [guarded_at, degs_at, bc_scalar, bc_scalar, const_zero]
  exact ref_dinv (dst := dst a) n

/-- The row number an edge's word names. -/
theorem wraps_at (x : (⟨S330000, .i32⟩ : BufTy).Contents (Elt Ideal)) (e : Fin 330000) :
    wraps (F := Ideal) x (ix2 e (0 : Fin 1)) = wrap (x (ix1 e)) := by
  unfold wraps
  rw [bc_rows]; rfl

variable (m : (ℓ : Loc nD τ sig) → Buf (Elt Ideal) ℓ) (c : Dev nD)

/-- The contents before the program's first operation, and after each stretch of those before the loop. -/
def E0 : Val Ideal := after hostOps0 (fun r => m ⟨c, r⟩)
/-- The contents after stretch 1. -/
def E1 : Val Ideal := after hostOps0_1 (E0 m c)
/-- The contents after stretch 2. -/
def E2 : Val Ideal := after hostOps0_2 (E1 m c)
/-- The contents after stretch 3. -/
def E3 : Val Ideal := after hostOps0_3 (E2 m c)
/-- The contents after stretch 4. -/
def E4 : Val Ideal := after hostOps0_4 (E3 m c)
/-- The contents after stretch 5. -/
def E5 : Val Ideal := after hostOps0_5 (E4 m c)

/-- A buffer the stretch does not write keeps its contents. -/
theorem keep0 (V : Val Ideal) (r : Ref sig .tc) (h : r ∉ Value.hostOps0_W) :
    after hostOps0 V (Proc.devRef .tc r) = V (Proc.devRef .tc r) := after_of_writes_sub hostOps0 V Value.hostOps0_writes h
/-- Stretch 1 keeps what it does not write. -/
theorem keep1 (V : Val Ideal) (r : Ref sig .tc) (h : r ∉ Value.hostOps0_1_W) :
    after hostOps0_1 V (Proc.devRef .tc r) = V (Proc.devRef .tc r) := after_of_writes_sub hostOps0_1 V Value.hostOps0_1_writes h
/-- Stretch 2 keeps what it does not write. -/
theorem keep2 (V : Val Ideal) (r : Ref sig .tc) (h : r ∉ Value.hostOps0_2_W) :
    after hostOps0_2 V (Proc.devRef .tc r) = V (Proc.devRef .tc r) := after_of_writes_sub hostOps0_2 V Value.hostOps0_2_writes h
/-- Stretch 3 keeps what it does not write. -/
theorem keep3 (V : Val Ideal) (r : Ref sig .tc) (h : r ∉ Value.hostOps0_3_W) :
    after hostOps0_3 V (Proc.devRef .tc r) = V (Proc.devRef .tc r) := after_of_writes_sub hostOps0_3 V Value.hostOps0_3_writes h
/-- Stretch 4 keeps what it does not write. -/
theorem keep4 (V : Val Ideal) (r : Ref sig .tc) (h : r ∉ Value.hostOps0_4_W) :
    after hostOps0_4 V (Proc.devRef .tc r) = V (Proc.devRef .tc r) := after_of_writes_sub hostOps0_4 V Value.hostOps0_4_writes h
/-- Stretch 5 keeps what it does not write. -/
theorem keep5 (V : Val Ideal) (r : Ref sig .tc) (h : r ∉ Value.hostOps0_5_W) :
    after hostOps0_5 V (Proc.devRef .tc r) = V (Proc.devRef .tc r) := after_of_writes_sub hostOps0_5 V Value.hostOps0_5_writes h

/-- An array at launch. -/
abbrev arg (r : Ref sig .tc) : (Proc.devRef .tc r : DevRef τ sig).ty.Contents (Elt Ideal) := m ((c.tc : Thread nD τ).loc r)

/-- The sources of the longer list. -/
theorem E1_v3 : E1 m c (Proc.devRef .tc main_v3) = srcs (F := Ideal) (arg m c main_arg1) :=
  (keep1 _ main_v3 (by decide +kernel)).trans (s0_v3 _)
/-- The targets of the longer list. -/
theorem E1_v6 : E1 m c (Proc.devRef .tc main_v6) = dsts (F := Ideal) (arg m c main_arg1) :=
  (keep1 _ main_v6 (by decide +kernel)).trans (s0_v6 _)
/-- The guarded factors. -/
theorem E1_v16 : E1 m c (Proc.devRef .tc main_v16) = dvec (arg m c main_arg1) := by
  refine (s1_v16 (E0 m c)).trans ?_
  unfold E0
  rw [s0_v12, s0_v15, s0_cst]
  rfl

/-- The product of the features and their weights. -/
abbrev xw : Fin 10000 → Fin 64 → EReal := prod (arg m c main_arg0) (arg m c main_arg2)

/-- The product of the features and their weights. -/
theorem E2_v32 (n : Fin 10000) (j : Fin 64) : E2 m c (Proc.devRef .tc main_v32) (ix2 n j) = xw m c n j := by
  unfold E2
  rw [s2_v32, dot_mat dot_S10000x128_S128x64_S10000x64_1_0_0_1_n_n rfl]
  unfold E1 E0
  rw [keep1 _ main_arg0 (by decide +kernel), keep0 _ main_arg0 (by decide +kernel), keep1 _ main_arg2 (by decide +kernel), keep0 _ main_arg2 (by decide +kernel)]
  rfl

/-- An edge's weight: the product of its two ends' factors. -/
theorem E2_v33 (e : Fin 330000) : E2 m c (Proc.devRef .tc main_v33) (ix2 e (0 : Fin 1))
    = dinv (dst (arg m c main_arg1)) (at' (srcs (F := Ideal) (arg m c main_arg1) (ix1 e)))
      * dinv (dst (arg m c main_arg1)) (at' (dsts (F := Ideal) (arg m c main_arg1) (ix1 e))) := by
  unfold E2
  rw [s2_v33, E1_v3, E1_v6, E1_v16, bc_rows, mulf_at, gather1 rows_pos _ rfl rfl rfl rfl rfl, gather1 rows_pos _ rfl rfl rfl rfl rfl,
    wraps_at, wraps_at, dvec_at, dvec_at]
  rfl

/-- The sources are kept. -/
theorem E2_v3 : E2 m c (Proc.devRef .tc main_v3) = srcs (F := Ideal) (arg m c main_arg1) :=
  (keep2 _ main_v3 (by decide +kernel)).trans (E1_v3 m c)
/-- The targets are kept. -/
theorem E3_v6 : E3 m c (Proc.devRef .tc main_v6) = dsts (F := Ideal) (arg m c main_arg1) :=
  (keep3 _ main_v6 (by decide +kernel)).trans ((keep2 _ main_v6 (by decide +kernel)).trans (E1_v6 m c))
/-- The edges' weights are kept. -/
theorem E3_v33 : E3 m c (Proc.devRef .tc main_v33) = E2 m c (Proc.devRef .tc main_v33) :=
  keep3 _ main_v33 (by decide +kernel)

/-- The row taken for an edge. -/
theorem E3_v34 (e : Fin 330000) (j : Fin 64) : E3 m c (Proc.devRef .tc main_v34) (ix2 e j)
    = take (xw m c) (srcs (F := Ideal) (arg m c main_arg1) (ix1 e)) j := by
  unfold E3
  rw [s3_v34, E2_v3, select_apply, bc_rows, reduce_unit, gather2 rows_pos _ rfl rfl rfl rfl rfl rfl, bc_scalar, const_nan, E2_v32]
  unfold take ok at'
  rw [← wraps_at]
  rfl

/-- The weighted rows summed over the edges into a node, and the bias. -/
theorem E4_v42 (n : Fin 10000) (j : Fin 64) : E4 m c (Proc.devRef .tc main_v42) (ix2 n j)
    = (∑ e ∈ into (fun e : Fin 330000 => dsts (F := Ideal) (arg m c main_arg1) (ix1 e)) n,
        (dinv (dst (arg m c main_arg1)) (at' (srcs (F := Ideal) (arg m c main_arg1) (ix1 e)))
          * dinv (dst (arg m c main_arg1)) (at' (dsts (F := Ideal) (arg m c main_arg1) (ix1 e))))
          * take (xw m c) (srcs (F := Ideal) (arg m c main_arg1) (ix1 e)) j)
      + entries (arg m c main_arg3) j := by
  have h3 : E3 m c (Proc.devRef .tc main_arg3) = arg m c main_arg3 :=
    (keep3 _ main_arg3 (by decide +kernel)).trans ((keep2 _ main_arg3 (by decide +kernel)).trans
      ((keep1 _ main_arg3 (by decide +kernel)).trans (keep0 _ main_arg3 (by decide +kernel))))
  unfold E4
  rw [s4_v42, addf_at, scatter2 _ rfl rfl rfl rfl, bc_scalar, const_zero, zero_add, bc_row, bc_cols, h3, E3_v6]
  refine congrArg₂ (· + ·) ?_ rfl
  refine (Finset.sum_congr (congrArg (fun f => into f n) (funext fun e => bc_rows _ _ e 0)) fun e _ => ?_)
  rw [mulf_at, bc_col, E3_v33, E2_v33, E3_v34]

/-- The reference's hidden rows are the convolution. -/
theorem E5_v43 (n : Fin 10000) (j : Fin 64) : E5 m c (Proc.devRef .tc main_v43) (ix2 n j)
    = conv (src (arg m c main_arg1)) (dst (arg m c main_arg1)) (xw m c)
        (entries (arg m c main_arg3)) n j := by
  unfold E5
  rw [s5_v43, maxf_at, bc_scalar, const_zero, E4_v42]
  exact ref_conv (loops (arg m c main_arg1)) (xw m c) (entries (arg m c main_arg3)) n j

/-- The contents at the loop's entry. -/
theorem entry_eq : entryContents Value.preI m c = after hostOps0_6 (E5 m c) := by
  simp only [entryContents, afterL_cons, afterL_nil]
  rfl

end Cert.ReferenceIdeal.Entry

end
-- ==== Proof.Rows.lean ====
module

public import Idealize.ShloMosaic.Lib.Pointwise.ShapeOpsCore
public import proofs.«01_k».proof.Proof.Read

/-! A row of a table cut out at a row number that is computed, and a row written at one. -/

@[expose] public section

noncomputable section

namespace Cert.Ops

open Idealize.ShloMosaic hiding ix0 ix1 ix2
open Idealize.ShloMosaic.ValueIdx

variable {α : Type} {N M : ℕ}

/-- One row of a table, cut out at a row number. -/
theorem dslice_row (x : (⟨2, ![N, M]⟩ : Shape).Idx → α) (st : Fin 2 → ℤ) (h : (⟨2, ![N, M]⟩ : Shape).Slices (fun _ => 0) ⟨2, ![1, M]⟩)
    (n : Fin N) (h0 : st 0 = n.val) (h1 : st 1 = 0) (j : Fin M) :
    Host.dynamicSlice ⟨2, ![1, M]⟩ x st h (ix2 (0 : Fin 1) j) = x (ix2 n j) := by
  rw [Host.dynamicSlice_apply]
  refine congrArg x (funext fun a => Fin.ext ?_)
  match a with
  | ⟨0, _⟩ =>
    show Host.clampedStart ⟨2, ![N, M]⟩ ⟨2, ![1, M]⟩ h.1 st 0 + 0 = n.val
    exact Host.clampedStart_of_le h.1 st 0 n.val h0 n.isLt
  | ⟨1, _⟩ =>
    show Host.clampedStart ⟨2, ![N, M]⟩ ⟨2, ![1, M]⟩ h.1 st 1 + j.val = j.val
    rw [Host.clampedStart_of_le h.1 st 1 0 h1 (by show 0 + M ≤ M; omega), Nat.zero_add]

/-- One row of a table, written at a row number. -/
theorem dupdate_row (x : (⟨2, ![N, M]⟩ : Shape).Idx → α) (u : (⟨2, ![1, M]⟩ : Shape).Idx → α) (st : Fin 2 → ℤ)
    (h : (⟨2, ![N, M]⟩ : Shape).Slices (fun _ => 0) ⟨2, ![1, M]⟩)
    (n : Fin N) (h0 : st 0 = n.val) (h1 : st 1 = 0) (r : Fin N) (j : Fin M) :
    Host.dynamicUpdateSlice x u st h (ix2 r j) = if r = n then u (ix2 (0 : Fin 1) j) else x (ix2 r j) := by
  have c0 : Host.clampedStart ⟨2, ![N, M]⟩ ⟨2, ![1, M]⟩ h.1 st 0 = n.val := Host.clampedStart_of_le h.1 st 0 n.val h0 n.isLt
  have c1 : Host.clampedStart ⟨2, ![N, M]⟩ ⟨2, ![1, M]⟩ h.1 st 1 = 0 := Host.clampedStart_of_le h.1 st 1 0 h1 (by show 0 + M ≤ M; omega)
  rw [Host.dynamicUpdateSlice_apply]
  by_cases hr : r = n
  · rw [if_pos hr, dif_pos]
    · refine congrArg u (funext fun a => Fin.ext ?_)
      match a with
      | ⟨0, _⟩ => exact Nat.lt_one_iff.1 (Fin.isLt (n := 1) _)
      | ⟨1, _⟩ =>
        show j.val - Host.clampedStart ⟨2, ![N, M]⟩ ⟨2, ![1, M]⟩ h.1 st 1 = j.val
        rw [c1, Nat.sub_zero]
    · intro a
      match a with
      | ⟨0, _⟩ =>
        show Host.clampedStart ⟨2, ![N, M]⟩ ⟨2, ![1, M]⟩ h.1 st 0 ≤ r.val ∧ r.val < Host.clampedStart ⟨2, ![N, M]⟩ ⟨2, ![1, M]⟩ h.1 st 0 + 1
        rw [c0, hr]; omega
      | ⟨1, _⟩ =>
        show Host.clampedStart ⟨2, ![N, M]⟩ ⟨2, ![1, M]⟩ h.1 st 1 ≤ j.val ∧ j.val < Host.clampedStart ⟨2, ![N, M]⟩ ⟨2, ![1, M]⟩ h.1 st 1 + M
        rw [c1]; have := j.isLt; omega
  · rw [if_neg hr, dif_neg]
    intro hh
    have q : Host.clampedStart ⟨2, ![N, M]⟩ ⟨2, ![1, M]⟩ h.1 st 0 ≤ r.val ∧ r.val < Host.clampedStart ⟨2, ![N, M]⟩ ⟨2, ![1, M]⟩ h.1 st 0 + 1 := hh 0
    rw [c0] at q
    exact hr (Fin.ext (by omega))

end Cert.Ops

end
-- ==== Proof.ReferenceIdeal.Loop.lean ====
module

public import proofs.«01_k».proof.Proof.ReferenceIdeal.Conv
public import proofs.«01_k».proof.Proof.Rows

/-! The reference's loop over the extended reals: after `n` trips it carries the hidden and the cell state after
`n` steps of `Cert.Maths.Cell.state`, and has written the first `n` rows of the result. -/

@[expose] public section

set_option maxRecDepth 16384

noncomputable section

namespace Cert.ReferenceIdeal.Loop

open Cert.ReferenceIdeal Cert.ReferenceIdeal.Gen Cert.ReferenceIdeal.Value Cert.ReferenceIdeal.Entry
open Idealize.ShloMosaic hiding ix0 ix1 ix2
open Idealize.ShloMosaic.TcCoe Idealize.ShloMosaic.StableHlo Idealize.ShloMosaic.ValueIdx
open Cert.Ops Cert.Maths
open scoped BigOperators

/-- The logistic function, spelled with a quotient, read at one element. -/
theorem sigmoid_at (x : FVec Ideal S64 .f32) (j : Fin 64) :
    Host.divf (broadcastInDim S64 ![] bcast_S_S64 (constant S_ .f32 0x3F800000#32))
      (addf (broadcastInDim S64 ![] bcast_S_S64 (constant S_ .f32 0x3F800000#32)) (Host.exp (Host.negf x))) (ix1 j)
      = Ideal.logistic (x (ix1 j)) := by
  have e : ∀ y z : FVec Ideal S64 .f32, Host.divf y (addf z (Host.exp (Host.negf x))) (ix1 j)
      = Ideal.div (y (ix1 j)) ((z (ix1 j) : EReal) + Ideal.exp (-(x (ix1 j) : EReal))) := fun _ _ => rfl
  rw [e, bc_scalar, const_one]
  rfl

/-- The loop's product of a vector and a matrix. -/
theorem dot_gates (A : FVec Ideal S64 .f32) (B : FVec Ideal S64x256 .f32) (g : Fin 256) :
    Host.dotGeneral dot_S64_S64x256_S256_0_0_n_1_n_n none A B (ix1 g) = ∑ k : Fin 64, A (ix1 k) * B (ix2 k g) := dot_vec _ A B g

/-- The cell the loop carries. -/
def cellV (V : Val Ideal) : Cell :=
  cellOf (V (Proc.devRef .tc main_v47_1)) (V (Proc.devRef .tc main_v47_3)) (V (Proc.devRef .tc main_v47_2)) (V (Proc.devRef .tc main_v47_4))

/-- Row `n` of the table the loop reads. -/
def rowV (V : Val Ideal) (n : Fin 10000) (k : Fin 64) : EReal := V (Proc.devRef .tc main_v47_0) (ix2 n k)

/-- The carried hidden and cell state. -/
def hV (V : Val Ideal) : Fin 64 → EReal := entries (V (Proc.devRef .tc main_v47_6))
/-- The carried cell state. -/
def cV (V : Val Ideal) : Fin 64 → EReal := entries (V (Proc.devRef .tc main_v47_7))

/-- The trip's number is `n`. -/
def At (V : Val Ideal) (n : ℕ) : Prop := V (Proc.devRef .tc main_v47_5) = fun _ => BitVec.ofNat 32 n

variable (V : Val Ideal) (n : Fin 10000) (hc : At V n.val)
include hc

/-- The trip's number as a row number. -/
theorem start0 : ((![V (Proc.devRef .tc main_v47_5), constantI S_ 32 0#32] : Fin 2 → (⟨S_, .i32⟩ : BufTy).Contents (Elt Ideal)) 0 (Shape.Idx.first h_S_)).toInt = n.val := by
  show (V (Proc.devRef .tc main_v47_5) (Shape.Idx.first h_S_)).toInt = _
  rw [hc]
  exact toInt_loop n

/-- All four gates before their functions are taken. -/
theorem gates_at (g : Fin 256) : res_main_while0b_v55 V (ix1 g) = (cellV V).gate (rowV V n) (hV V) g := by
  unfold res_main_while0b_v55
  rw [addf_at, addf_at, addf_at, dot_gates, dot_gates]
  refine congrArg₂ (· + ·) (congrArg₂ (· + ·) (congrArg₂ (· + ·) ?_ rfl) ?_) rfl
  · refine Finset.sum_congr rfl fun k _ => ?_
    rw [transpose_at, Routing.cast21 _ shapeCasts_S1x64_S64 (0 : Fin 1) k k (by show k.val = 0 * 64 + k.val; omega),
      dslice_row _ _ _ n (start0 V n hc) rfl]
    rfl
  · refine Finset.sum_congr rfl fun k _ => ?_
    rw [transpose_at]
    rfl

/-- A trip's new cell state. -/
theorem cell_at (j : Fin 64) : res_main_while0b_v81 V (ix1 j) = (cellV V).cnext (rowV V n) (hV V) (cV V) j := by
  have ht : ∀ x : FVec Ideal S64 .f32, Host.tanh x (ix1 j) = Ideal.tanh (x (ix1 j)) := fun _ => rfl
  unfold res_main_while0b_v81 Cell.cnext
  rw [addf_at, mulf_at, mulf_at, sigmoid_at, sigmoid_at, ht,
    slice_vec 64 _ _ j (gidx 1 j) rfl, slice_vec 0 _ _ j (gidx 0 j) rfl, slice_vec 128 _ _ j (gidx 2 j) rfl,
    gates_at V n hc, gates_at V n hc, gates_at V n hc]
  rfl

/-- A trip's new hidden state. -/
theorem hidden_at (j : Fin 64) : res_main_while0b_v83 V (ix1 j) = (cellV V).hnext (rowV V n) (hV V) (cV V) j := by
  have ht : ∀ x : FVec Ideal S64 .f32, Host.tanh x (ix1 j) = Ideal.tanh (x (ix1 j)) := fun _ => rfl
  unfold res_main_while0b_v83 Cell.hnext
  rw [mulf_at, sigmoid_at, ht, slice_vec 192 _ _ j (gidx 3 j) rfl, gates_at V n hc, cell_at V n hc]

/-- A trip adds one to the trip's number. -/
theorem step_at : At (STEP V) (n.val + 1) := by
  have h := hc
  unfold At at h ⊢
  rw [STEP_main_v47_5]
  unfold step_main_v47_5
  rw [h]
  funext i
  exact (BitVec.ofNat_add n.val 1).symm

/-- A trip writes its hidden state into its own row. -/
theorem step_rows (r : Fin 10000) (j : Fin 64) : STEP V (Proc.devRef .tc main_v47_8) (ix2 r j)
    = if r = n then (cellV V).hnext (rowV V n) (hV V) (cV V) j else V (Proc.devRef .tc main_v47_8) (ix2 r j) := by
  rw [STEP_main_v47_8]
  unfold step_main_v47_8
  rw [id_eq, dupdate_row _ _ _ _ n (start0 V n hc) rfl, bc_cols, hidden_at V n hc]

omit hc

/-- What the loop keeps after `n` trips. -/
structure Kept (V : Val Ideal) (W : Cell) (X : Fin 10000 → Fin 64 → EReal) (n : ℕ) : Prop where
  at' : At V n
  cell : cellV V = W
  rows : rowV V = X
  hid : hV V = (W.state (rowsOf X) n).1
  mem : cV V = (W.state (rowsOf X) n).2
  done : ∀ (r : Fin 10000) (j : Fin 64), r.val < n → V (Proc.devRef .tc main_v47_8) (ix2 r j) = (W.state (rowsOf X) (r.val + 1)).1 j

/-- A trip keeps the invariant. -/
theorem Kept.step {V : Val Ideal} {W : Cell} {X : Fin 10000 → Fin 64 → EReal} {n : ℕ} (hn : n < 10000) (K : Kept V W X n) :
    Kept (STEP V) W X (n + 1) := by
  have e := rowsOf_of X ⟨n, hn⟩
  have hx : rowV V ⟨n, hn⟩ = rowsOf X n := by rw [e, K.rows]
  have hh : (cellV V).hnext (rowV V ⟨n, hn⟩) (hV V) (cV V) = (W.state (rowsOf X) (n + 1)).1 := by
    rw [hx, K.cell, K.hid, K.mem]; rfl
  have hm : (cellV V).cnext (rowV V ⟨n, hn⟩) (hV V) (cV V) = (W.state (rowsOf X) (n + 1)).2 := by
    rw [hx, K.cell, K.hid, K.mem]; rfl
  refine ⟨step_at V ⟨n, hn⟩ K.at', ?_, ?_, ?_, ?_, ?_⟩
  · rw [← K.cell]
    unfold cellV
    rw [STEP_main_v47_1, STEP_main_v47_2, STEP_main_v47_3, STEP_main_v47_4]
  · rw [← K.rows]
    unfold rowV
    rw [STEP_main_v47_0]
  · rw [← hh]
    unfold hV entries
    funext j
    rw [STEP_main_v47_6]
    exact hidden_at V ⟨n, hn⟩ K.at' j
  · rw [← hm]
    funext j
    unfold cV entries
    rw [STEP_main_v47_7]
    exact cell_at V ⟨n, hn⟩ K.at' j
  · intro r j hr
    rw [step_rows V ⟨n, hn⟩ K.at']
    by_cases h : r = ⟨n, hn⟩
    · rw [if_pos h, hh, h]
    · rw [if_neg h]
      exact K.done r j (by have : r.val ≠ n := fun q => h (Fin.ext q); omega)

/-- So do any number of trips. -/
theorem Kept.iterate {V : Val Ideal} {W : Cell} {X : Fin 10000 → Fin 64 → EReal} (K : Kept V W X 0) (n : ℕ) (hn : n ≤ 10000) :
    Kept (STEP^[n] V) W X n := by
  induction n with
  | zero => exact K
  | succ n ih =>
    rw [Function.iterate_succ_apply']
    exact (ih (by omega)).step (by omega)

variable (m : (ℓ : Loc nD τ sig) → Buf (Elt Ideal) ℓ) (c : Dev nD)

/-- An argument that no stretch writes, before the loop's set-up. -/
theorem E5_arg (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) : E5 m c (Proc.devRef .tc r) = arg m c r :=
  (keep5 _ r h5).trans ((keep4 _ r h4).trans ((keep3 _ r h3).trans ((keep2 _ r h2).trans ((keep1 _ r h1).trans (keep0 _ r h0)))))

/-- The cell of the arguments, and the rows it runs on. -/
def W : Cell := cellOf (arg m c main_arg4) (arg m c main_arg5) (arg m c main_arg6) (arg m c main_arg7)
/-- The rows the cell runs on: the convolution. -/
def X : Fin 10000 → Fin 64 → EReal :=
  conv (src (arg m c main_arg1)) (dst (arg m c main_arg1)) (xw m c) (entries (arg m c main_arg3))

/-- The invariant holds at the loop's entry. -/
theorem kept_entry : Kept (entryContents Value.preI m c) (W m c) (X m c) 0 := by
  rw [entry_eq]
  refine ⟨s6_5 _, ?_, ?_, ?_, ?_, fun r j h => absurd h (Nat.not_lt_zero _)⟩
  · unfold cellV W
    rw [s6_1, s6_2, s6_3, s6_4,
      E5_arg m c main_arg4 (by decide +kernel) (by decide +kernel) (by decide +kernel) (by decide +kernel) (by decide +kernel) (by decide +kernel),
      E5_arg m c main_arg5 (by decide +kernel) (by decide +kernel) (by decide +kernel) (by decide +kernel) (by decide +kernel) (by decide +kernel),
      E5_arg m c main_arg6 (by decide +kernel) (by decide +kernel) (by decide +kernel) (by decide +kernel) (by decide +kernel) (by decide +kernel),
      E5_arg m c main_arg7 (by decide +kernel) (by decide +kernel) (by decide +kernel) (by decide +kernel) (by decide +kernel) (by decide +kernel)]
  · funext n j
    unfold rowV X
    rw [s6_0]
    exact E5_v43 m c n j
  · funext j
    unfold hV entries
    rw [s6_6, bc_scalar]
    exact const_zero
  · funext j
    unfold cV entries
    rw [s6_7, bc_scalar]
    exact const_zero

/-- The reference's result: row `i` is the hidden state after `i + 1` steps. -/
theorem result (i : Fin 10000) (j : Fin 64) :
    (STEP^[10000] (entryContents Value.preI m c)) (Proc.devRef .tc main_v47_8) (ix2 i j)
      = ((W m c).state (rowsOf (X m c)) (i.val + 1)).1 j :=
  ((kept_entry m c).iterate 10000 (le_refl _)).done i j i.isLt

end Cert.ReferenceIdeal.Loop

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Run
public import proofs.«01_k».proof.Proof.KernelIdeal.Value
public import proofs.«01_k».proof.Proof.ReferenceIdeal.Loop
public import proofs.«01_k».proof.Proof.Gen.ReferenceIdeal.Run

/-!
The proof of the certificate's claims, from the programs' runs.
-/

@[expose] public section

noncomputable section

namespace Cert.Proof

open Idealize.ShloMosaic hiding ix0 ix1 ix2
open Idealize.ShloMosaic.ValueIdx Idealize.SL.Sem

/-- The kernel leaves its arguments unchanged and ends quiescent, at bit patterns. -/
theorem frame_kernel : @Cert.quiescent_Kernel Cert.Kernel.Gen.facts :=
  fun m g _ => (θ_run _ _ _).mono (fun _ h => ⟨fun c => (h.1 c).2, h.2⟩) (Cert.Kernel.Run.run m g)

/-- The kernel leaves its arguments unchanged and ends quiescent, at exact reals. -/
theorem frame_ideal : @Cert.quiescent_KernelIdeal Cert.KernelIdeal.Gen.facts :=
  fun m g _ => (θ_run _ _ _).mono (fun _ h => ⟨fun c => (h.1 c).2, h.2⟩) (Cert.KernelIdeal.Run.run m g)

/-- The reference declares no semaphore. -/
theorem no_counter (g : GSem Cert.ReferenceIdeal.nD Cert.ReferenceIdeal.τ Cert.ReferenceIdeal.sig) : False := by
  obtain ⟨_, s | s⟩ := g
  · exact s.elim0
  · exact s.elim0

/-- The reference leaves its arguments unchanged and ends quiescent. -/
theorem frame_reference : @Cert.quiescent_ReferenceIdeal Cert.ReferenceIdeal.Gen.facts :=
  fun m g _ => (θ_run _ _ _).mono (fun _ h => ⟨fun c => (h c).2, funext fun g => (no_counter g).elim⟩) (Cert.ReferenceIdeal.Value.run m g)

/-- From memories that agree on the arguments the two programs' cells and rows agree. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Entry.arg m' c Cert.ReferenceIdeal.main_arg0 = Cert.KernelIdeal.Nodes.arg m c Cert.KernelIdeal.main_arg0)
    (h1 : Cert.ReferenceIdeal.Entry.arg m' c Cert.ReferenceIdeal.main_arg1 = Cert.KernelIdeal.Nodes.arg m c Cert.KernelIdeal.main_arg1)
    (h2 : Cert.ReferenceIdeal.Entry.arg m' c Cert.ReferenceIdeal.main_arg2 = Cert.KernelIdeal.Nodes.arg m c Cert.KernelIdeal.main_arg2)
    (h3 : Cert.ReferenceIdeal.Entry.arg m' c Cert.ReferenceIdeal.main_arg3 = Cert.KernelIdeal.Nodes.arg m c Cert.KernelIdeal.main_arg3)
    (h4 : Cert.ReferenceIdeal.Entry.arg m' c Cert.ReferenceIdeal.main_arg4 = Cert.KernelIdeal.Nodes.arg m c Cert.KernelIdeal.main_arg4)
    (h5 : Cert.ReferenceIdeal.Entry.arg m' c Cert.ReferenceIdeal.main_arg5 = Cert.KernelIdeal.Nodes.arg m c Cert.KernelIdeal.main_arg5)
    (h6 : Cert.ReferenceIdeal.Entry.arg m' c Cert.ReferenceIdeal.main_arg6 = Cert.KernelIdeal.Nodes.arg m c Cert.KernelIdeal.main_arg6)
    (h7 : Cert.ReferenceIdeal.Entry.arg m' c Cert.ReferenceIdeal.main_arg7 = Cert.KernelIdeal.Nodes.arg m c Cert.KernelIdeal.main_arg7) :
    Cert.ReferenceIdeal.Loop.W m' c = Cert.KernelIdeal.Value.W m c ∧ Cert.ReferenceIdeal.Loop.X m' c = Cert.KernelIdeal.Value.X m c := by
  unfold Cert.ReferenceIdeal.Loop.W Cert.KernelIdeal.Value.W Cert.ReferenceIdeal.Loop.X Cert.KernelIdeal.Value.X
  unfold Cert.ReferenceIdeal.Entry.xw Cert.KernelIdeal.Nodes.xw
  rw [h0, h1, h2, h3, h4, h5, h6, h7]
  exact ⟨rfl, rfl⟩

/-- From memories that agree on the arguments, the kernel and the reference end with the same result. -/
theorem equal : @Cert.algebraic_KernelIdeal_ReferenceIdeal Cert.KernelIdeal.Gen.facts Cert.ReferenceIdeal.Gen.facts := by
  intro m g m' g' _ hag
  refine ⟨fun c => Cert.KernelIdeal.Run.left1 m c (Proc.devRef .tc Cert.KernelIdeal.main_v37),
    (θ_run _ _ _).mono (fun _ h => h.1) (Cert.KernelIdeal.Run.run m g), ?_⟩
  refine (θ_run _ _ _).mono (fun _ h c => ⟨(h c).1.trans ?_, (h c).2⟩) (Cert.ReferenceIdeal.Value.run m' g')
  obtain ⟨h0, h1, h2, h3, h4, h5, h6, h7⟩ := hag c
  obtain ⟨hW, hX⟩ := same m m' c h0 h1 h2 h3 h4 h5 h6 h7
  refine Eq.trans ?_ (Cert.KernelIdeal.Value.result m c).symm
  funext i
  obtain ⟨a, b, rfl⟩ : ∃ (a : Fin 10000) (b : Fin 64), i = ix2 a b := ⟨i 0, i 1, ValueIdx.eq_ix2 (n0 := 10000) (n1 := 64) i⟩
  refine (Cert.ReferenceIdeal.Loop.result m' c a b).trans ?_
  rw [hW, hX]

/-- All the claims. -/
theorem claim : Cert.Claim :=
  ⟨Cert.Kernel.Gen.facts, Cert.KernelIdeal.Gen.facts, Cert.ReferenceIdeal.Gen.facts,
    frame_kernel, frame_ideal, frame_reference, trivial, equal⟩

end Cert.Proof

end
